-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gain [hPre_finite_gain : Cert.Pre_finite_gain.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gain [hPre_finite_gain : Cert.Pre_finite_gain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gain [hKernelIdeal : Cert.KernelIdeal.Facts] [hPre_finite_gain : Cert.Pre_finite_gain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gain [hReferenceIdeal : Cert.ReferenceIdeal.Facts] [hPre_finite_gain : Cert.Pre_finite_gain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  True

def preserves_Reference_ReferenceIdeal : Prop :=
  IdealRules.named_const.Statement Cert.ReferenceIdeal.κ "ln2" .f32 0x3F317218#32 ((Real.log 2 : ℝ) : EReal)

def algebraic_KernelIdeal_ReferenceIdeal_pre_finite_gain [hKernelIdeal : Cert.KernelIdeal.Facts] [hReferenceIdeal : Cert.ReferenceIdeal.Facts] [hPre_finite_gain : Cert.Pre_finite_gain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hPre_finite_gain : Cert.Pre_finite_gain.Facts),
    quiescent_Kernel (hKernel := hKernel)
    ∧ quiescent_KernelIdeal (hKernelIdeal := hKernelIdeal)
    ∧ quiescent_KernelIdeal_pre_finite_gain (hKernelIdeal := hKernelIdeal) (hPre_finite_gain := hPre_finite_gain)
    ∧ quiescent_ReferenceIdeal (hReferenceIdeal := hReferenceIdeal)
    ∧ quiescent_ReferenceIdeal_pre_finite_gain (hReferenceIdeal := hReferenceIdeal) (hPre_finite_gain := hPre_finite_gain)
    ∧ quiescent_Reference (hReference := hReference)
    ∧ preserves_Kernel_KernelIdeal
    ∧ preserves_Reference_ReferenceIdeal
    ∧ algebraic_KernelIdeal_ReferenceIdeal_pre_finite_gain (hKernelIdeal := hKernelIdeal) (hReferenceIdeal := hReferenceIdeal) (hPre_finite_gain := hPre_finite_gain)
-- ==== Pre_finite_gain.lean ====
abbrev S4x2x128x12288 : Shape := ⟨4, ![4, 2, 128, 12288]⟩
abbrev S4x2x128 : Shape := ⟨3, ![4, 2, 128]⟩
abbrev S12288 : Shape := ⟨1, ![12288]⟩
abbrev S2x128x12288 : Shape := ⟨3, ![2, 128, 12288]⟩
abbrev S_ : Shape := ⟨0, ![]⟩

class Facts : Prop where
  bcast_S_S12288 : S_.BroadcastsInDim S12288 (![] : Fin 0 → Fin S12288.rank)
  reducesTo_S12288_S_d0 : S12288.ReducesTo [0] S_
  h_S_ : 0 < S_.numel

variable [Facts]

def fn {F : FTy → Type} [FloatOps F] (main_arg0 : FVec F S4x2x128x12288 .fp8e4m3) (main_arg1 : FVec F S4x2x128 .f32) (main_arg2 : FVec F S12288 .f32) (main_arg3 : FVec F S2x128x12288 .bf16) (main_arg4 : FVec F S12288 .f32) : IVec S_ 1 :=
  let main_v0 : FVec F S12288 .f32 := Host.absf main_arg4
  let main_cst : FVec F S_ .f32 := constant S_ .f32 0x7F7FFFFF#32
  let main_v1 : FVec F S12288 .f32 := broadcastInDim S12288 ![] bcast_S_S12288 main_cst
  let main_v2 : IVec S12288 1 := cmpf .ole main_v0 main_v1
  let main_c : IVec S_ 1 := constantI S_ 1 1#1
  let main_v3 : IVec S_ 1 := (fun x v => Host.reduce IntOp.andi x v reducesTo_S12288_S_d0 h_S_) main_v2 main_c
  main_v3
-- ==== Kernel.lean ====
abbrev S4x2x128x12288 : Shape := ⟨4, ![4, 2, 128, 12288]⟩
abbrev S4x2x128 : Shape := ⟨3, ![4, 2, 128]⟩
abbrev S12288 : Shape := ⟨1, ![12288]⟩
abbrev S2x128x12288 : Shape := ⟨3, ![2, 128, 12288]⟩
abbrev S4x256x12288 : Shape := ⟨3, ![4, 256, 12288]⟩
abbrev S256x12288 : Shape := ⟨2, ![256, 12288]⟩
abbrev S1x12288 : Shape := ⟨2, ![1, 12288]⟩
abbrev S2x128 : Shape := ⟨2, ![2, 128]⟩
abbrev S4x32x12288 : Shape := ⟨3, ![4, 32, 12288]⟩
abbrev S32x12288 : Shape := ⟨2, ![32, 12288]⟩
abbrev S32x128 : Shape := ⟨2, ![32, 128]⟩
abbrev S1x1x128 : Shape := ⟨3, ![1, 1, 128]⟩
abbrev S1x128 : Shape := ⟨2, ![1, 128]⟩
abbrev S4x32x1024 : Shape := ⟨3, ![4, 32, 1024]⟩
abbrev S128x1024 : Shape := ⟨2, ![128, 1024]⟩
abbrev S32x1024 : Shape := ⟨2, ![32, 1024]⟩
abbrev S1x1024 : Shape := ⟨2, ![1, 1024]⟩
abbrev S32 : Shape := ⟨1, ![32]⟩
abbrev S32x1 : Shape := ⟨2, ![32, 1]⟩
abbrev S32x256 : Shape := ⟨2, ![32, 256]⟩
abbrev S128 : Shape := ⟨1, ![128]⟩

abbrev nBuf : Space → Nat
  | .hbm => 12
  | .vmem => 12
  | .smem => 0
  | _ => 0

abbrev bufTy : (tb : Table) → Fin (tcTables nBuf tb) → BufTy
  | .hbm, ⟨0, _⟩ => ⟨S4x2x128x12288, .fp8e4m3⟩
  | .hbm, ⟨1, _⟩ => ⟨S4x2x128, .f32⟩
  | .hbm, ⟨2, _⟩ => ⟨S12288, .f32⟩
  | .hbm, ⟨3, _⟩ => ⟨S2x128x12288, .bf16⟩
  | .hbm, ⟨4, _⟩ => ⟨S12288, .f32⟩
  | .hbm, ⟨5, _⟩ => ⟨S4x256x12288, .fp8e4m3⟩
  | .hbm, ⟨6, _⟩ => ⟨S256x12288, .bf16⟩
  | .hbm, ⟨7, _⟩ => ⟨S1x12288, .f32⟩
  | .hbm, ⟨8, _⟩ => ⟨S1x12288, .f32⟩
  | .hbm, ⟨9, _⟩ => ⟨S256x12288, .bf16⟩
  | .hbm, ⟨10, _⟩ => ⟨S256x12288, .fp8e4m3⟩
  | .hbm, ⟨11, _⟩ => ⟨S2x128, .f32⟩
  | .local _ .vmem, ⟨0, _⟩ => ⟨S4x32x12288, .fp8e4m3⟩
  | .local _ .vmem, ⟨1, _⟩ => ⟨S4x32x12288, .fp8e4m3⟩
  | .local _ .vmem, ⟨2, _⟩ => ⟨S4x2x128, .f32⟩
  | .local _ .vmem, ⟨3, _⟩ => ⟨S1x12288, .f32⟩
  | .local _ .vmem, ⟨4, _⟩ => ⟨S32x12288, .bf16⟩
  | .local _ .vmem, ⟨5, _⟩ => ⟨S32x12288, .bf16⟩
  | .local _ .vmem, ⟨6, _⟩ => ⟨S1x12288, .f32⟩
  | .local _ .vmem, ⟨7, _⟩ => ⟨S32x12288, .bf16⟩
  | .local _ .vmem, ⟨8, _⟩ => ⟨S32x12288, .bf16⟩
  | .local _ .vmem, ⟨9, _⟩ => ⟨S32x12288, .fp8e4m3⟩
  | .local _ .vmem, ⟨10, _⟩ => ⟨S32x12288, .fp8e4m3⟩
  | .local _ .vmem, ⟨11, _⟩ => ⟨S2x128, .f32⟩
  | _, _ => ⟨S4x2x128x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c0 : Index := 0#32
  let arg0 : BitVec 32 := BitVec.ofNat 32 (i 0).val
  let c4_i32 : BitVec 32 := 4#32
  let v0 : BitVec 32 := Scalar.divsi arg0 c4_i32
  let v6 : Index := Scalar.indexCast v0
  let c0_1 : Index := 0#32
  ![0, v6.toNat, 0]
def k0_off2 (i : grid0.Coords) : Fin 3 → Nat :=
  let c1 : Index := 1#32
  let arg0 : BitVec 32 := BitVec.ofNat 32 (i 0).val
  let c4_i32 : BitVec 32 := 4#32
  let v0 : BitVec 32 := Scalar.divsi arg0 c4_i32
  let v19 : Index := Scalar.indexCast v0
  let c0_4 : Index := 0#32
  ![1, v19.toNat, 0]
def k0_off3 (i : grid0.Coords) : Fin 3 → Nat :=
  let c2 : Index := 2#32
  let arg0 : BitVec 32 := BitVec.ofNat 32 (i 0).val
  let c4_i32 : BitVec 32 := 4#32
  let v0 : BitVec 32 := Scalar.divsi arg0 c4_i32
  let v32 : Index := Scalar.indexCast v0
  let c0_9 : Index := 0#32
  ![2, v32.toNat, 0]
def k0_off4 (i : grid0.Coords) : Fin 3 → Nat :=
  let c3 : Index := 3#32
  let arg0 : BitVec 32 := BitVec.ofNat 32 (i 0).val
  let c4_i32 : BitVec 32 := 4#32
  let v0 : BitVec 32 := Scalar.divsi arg0 c4_i32
  let v45 : Index := Scalar.indexCast v0
  let c0_13 : Index := 0#32
  ![3, v45.toNat, 0]
def k0_off5 (i : grid0.Coords) : Fin 2 → Nat :=
  let arg0 : BitVec 32 := BitVec.ofNat 32 (i 0).val
  let c4_i32 : BitVec 32 := 4#32
  let v0 : BitVec 32 := Scalar.divsi arg0 c4_i32
  let v934 : Index := Scalar.indexCast v0
  let c0_263 : Index := 0#32
  ![v934.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x32x12288 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x12288 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x12288 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x12288 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
variable {F : FTy → Type} [FloatOps F] [Named F]
def κ : String → Option EReal := fun
  | "ln2" => some ((Real.log 2 : ℝ) : EReal)
  | _ => none
-- ==== Reference.lean ====
abbrev S4x2x128x12288 : Shape := ⟨4, ![4, 2, 128, 12288]⟩
abbrev S4x2x128 : Shape := ⟨3, ![4, 2, 128]⟩
abbrev S12288 : Shape := ⟨1, ![12288]⟩
abbrev S2x128x12288 : Shape := ⟨3, ![2, 128, 12288]⟩
abbrev S1x1x12288 : Shape := ⟨3, ![1, 1, 12288]⟩
abbrev S256x12288 : Shape := ⟨2, ![256, 12288]⟩
abbrev S2x128 : Shape := ⟨2, ![2, 128]⟩
abbrev S4x2x128x1 : Shape := ⟨4, ![4, 2, 128, 1]⟩
abbrev S2x128x1 : Shape := ⟨3, ![2, 128, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x2x128x12288, .fp8e4m3⟩
  | .hbm, ⟨1, _⟩ => ⟨S4x2x128, .f32⟩
  | .hbm, ⟨2, _⟩ => ⟨S12288, .f32⟩
  | .hbm, ⟨3, _⟩ => ⟨S2x128x12288, .bf16⟩
  | .hbm, ⟨4, _⟩ => ⟨S12288, .f32⟩
  | .hbm, ⟨5, _⟩ => ⟨S1x1x12288, .f32⟩
  | .hbm, ⟨6, _⟩ => ⟨S1x1x12288, .f32⟩
  | .hbm, ⟨7, _⟩ => ⟨S256x12288, .bf16⟩
  | .hbm, ⟨8, _⟩ => ⟨S256x12288, .fp8e4m3⟩
  | .hbm, ⟨9, _⟩ => ⟨S2x128, .f32⟩
  | .local _ .vmem, ⟨0, _⟩ => ⟨S4x2x128x12288, .fp8e4m3⟩
  | .local _ .vmem, ⟨1, _⟩ => ⟨S4x2x128, .f32⟩
  | .local _ .vmem, ⟨2, _⟩ => ⟨S1x1x12288, .f32⟩
  | .local _ .vmem, ⟨3, _⟩ => ⟨S2x128x12288, .bf16⟩
  | .local _ .vmem, ⟨4, _⟩ => ⟨S1x1x12288, .f32⟩
  | .local _ .vmem, ⟨5, _⟩ => ⟨S256x12288, .bf16⟩
  | .local _ .vmem, ⟨6, _⟩ => ⟨S256x12288, .fp8e4m3⟩
  | .local _ .vmem, ⟨7, _⟩ => ⟨S2x128, .f32⟩
  | _, _ => ⟨S4x2x128x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x2x128x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x12288 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x12288 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x12288 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelFrame.lean ====
/- The kernel's frame at any float semantics: a run leaves the five arguments as it found them and every counter
   at zero. Nothing is said here of what the three output windows hold; they are only held to be written. -/
module

public import proofs.«01_k».proof.Proof.Gen.Kernel.Frame
public import proofs.«01_k».proof.Proof.Gen.Kernel.Skeleton
public import proofs.«01_k».proof.Proof.Gen.Kernel.Launch
public import proofs.«01_k».proof.Proof.Gen.Kernel.Points
public import Idealize.ShloMosaic.Lib.Ring
public import Idealize.ShloMosaic.Lib.Tactic
public import Idealize.ShloMosaic.Lib.WordCmp
public import Idealize.ShloMosaic.Lib.Writes
public import Idealize.ShloMosaic.Lib.WritesUnit
public import Idealize.ShloMosaic.Lib.Pipeline.Value
public import Idealize.ShloMosaic.Lib.Pipeline.DatRel
public import Idealize.ShloMosaic.Lib.Pipeline.ArrRel

@[expose] public section

set_option maxRecDepth 16384

noncomputable section

namespace Cert.Kernel.Unread
open Cert.Kernel.Gen
open Cert.Kernel.Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

/-- The body's triple: on whole staging buffers, the body leaves its five inputs as they were and its three outputs
    at some contents. -/
theorem kernelRun (c : Dev nD) (i : grid0.Coords) (arg1 : Memref sig .tc .vmem S4x32x12288 .fp8e4m3) (harg1 : arg1.IsWhole) (arg2 : Memref sig .tc .vmem S4x2x128 .f32) (harg2 : arg2.IsWhole) (arg3 : Memref sig .tc .vmem S1x12288 .f32) (harg3 : arg3.IsWhole) (arg4 : Memref sig .tc .vmem S32x12288 .bf16) (harg4 : arg4.IsWhole) (arg5 : Memref sig .tc .vmem S1x12288 .f32) (harg5 : arg5.IsWhole) (arg6 : Memref sig .tc .vmem S32x12288 .bf16) (harg6 : arg6.IsWhole) (arg7 : Memref sig .tc .vmem S32x12288 .fp8e4m3) (harg7 : arg7.IsWhole) (arg8 : Memref sig .tc .vmem S2x128 .f32) (harg8 : arg8.IsWhole)
    (x0 : Vec F S4x32x12288 .fp8e4m3) (x1 : Vec F S4x2x128 .f32) (x2 : Vec F S1x12288 .f32) (x3 : Vec F S32x12288 .bf16) (x4 : Vec F S1x12288 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_recv_rmsnorm_quant i arg1 harg1 arg2 harg2 arg3 harg3 arg4 harg4 arg5 harg5 arg6 harg6 arg7 harg7 arg8 harg8) K := by
    intro E K
    simp only [cc0_recv_rmsnorm_quant_eq_skeleton]; unfold cc0_recv_rmsnorm_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    subst hf0; subst hf1; subst hf2; subst hf3; subst hf4
    sl_exec
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

variable (m : (ℓ : Loc nD τ sig) → Buf (Elt F) ℓ) (ρ : Dev nD → PrngReg)

/-- The three output windows, of which nothing is named. -/
def marked : Fin 8 → Bool := fun w => 5 ≤ w.val

/-- The proof data: the input windows at their blocks, the output windows not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- No window is held to a relation. -/
def relOf (c : Dev nD) (w : Fin cfg0.W) (t : Fin cfg0.N) : ((cfg0.win w).block.Idx → Elt F (cfg0.win w).elt) → Prop := fun _ => True

/-- The relational proof data of a core. -/
def rdat (c : Dev nD) := (dats m 0 c).toRRel marked (relOf (F := F) c)

/-- A window's array at the region's entry is what the entry memory holds. -/
theorem A_eq (c : Dev nD) (w : Fin cfg0.W) : (dats m 0 c).A w = V m c (Pipeline.arrRef spec0 w) := by
  dsimp only [dats]

/-- What a point leaves in window 0's buffer. -/
theorem after0_0 (c : Dev nD) (t : Fin cfg0.N) : (dats m 0 c).after 0 t = iblk m c 0 t := by dsimp only [dats]
/-- What a point leaves in window 1's buffer. -/
theorem after0_1 (c : Dev nD) (t : Fin cfg0.N) : (dats m 0 c).after 1 t = iblk m c 1 t := by dsimp only [dats]
/-- What a point leaves in window 2's buffer. -/
theorem after0_2 (c : Dev nD) (t : Fin cfg0.N) : (dats m 0 c).after 2 t = iblk m c 2 t := by dsimp only [dats]
/-- What a point leaves in window 3's buffer. -/
theorem after0_3 (c : Dev nD) (t : Fin cfg0.N) : (dats m 0 c).after 3 t = iblk m c 3 t := by dsimp only [dats]
/-- What a point leaves in window 4's buffer. -/
theorem after0_4 (c : Dev nD) (t : Fin cfg0.N) : (dats m 0 c).after 4 t = iblk m c 4 t := by dsimp only [dats]

/-- What a point finds in input window 0's buffer: its block of the array. -/
theorem before0_0 (c : Dev nD) (t : Fin cfg0.N) (d) : (dats m 0 c).before 0 t d = iblk m c 0 t :=
  before0_0_of m (dats m 0 c) (A_eq m c 0) (after0_0 m c) t d
/-- What a point finds in input window 1's buffer: its block of the array. -/
theorem before0_1 (c : Dev nD) (t : Fin cfg0.N) (d) : (dats m 0 c).before 1 t d = iblk m c 1 t :=
  before0_1_of m (dats m 0 c) (A_eq m c 1) (after0_1 m c) t d
/-- What a point finds in input window 2's buffer: its block of the array. -/
theorem before0_2 (c : Dev nD) (t : Fin cfg0.N) (d) : (dats m 0 c).before 2 t d = iblk m c 2 t :=
  before0_2_of m (dats m 0 c) (A_eq m c 2) (after0_2 m c) t d
/-- What a point finds in input window 3's buffer: its block of the array. -/
theorem before0_3 (c : Dev nD) (t : Fin cfg0.N) (d) : (dats m 0 c).before 3 t d = iblk m c 3 t :=
  before0_3_of m (dats m 0 c) (A_eq m c 3) (after0_3 m c) t d
/-- What a point finds in input window 4's buffer: its block of the array. -/
theorem before0_4 (c : Dev nD) (t : Fin cfg0.N) (d) : (dats m 0 c).before 4 t d = iblk m c 4 t :=
  before0_4_of m (dats m 0 c) (A_eq m c 4) (after0_4 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜((dats m 0 c).toRRel marked (relOf (F := F) c)).Finds 5 t Y⌝ ∗ owns (c : Thread nD τ) (st0_5 t) fullShare Y)
    ∗ (∃ Y, ⌜((dats m 0 c).toRRel marked (relOf (F := F) c)).Finds 6 t Y⌝ ∗ owns (c : Thread nD τ) (st0_6 t) fullShare Y)
    ∗ (∃ Y, ⌜((dats m 0 c).toRRel marked (relOf (F := F) c)).Finds 7 t Y⌝ ∗ owns (c : Thread nD τ) (st0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜relOf (F := F) c 5 t X⌝ ∗ owns (c : Thread nD τ) (st0_5 t) fullShare X)
    ∗ (∃ X, ⌜relOf (F := F) c 6 t X⌝ ∗ owns (c : Thread nD τ) (st0_6 t) fullShare X)
    ∗ (∃ X, ⌜relOf (F := F) c 7 t X⌝ ∗ owns (c : Thread nD τ) (st0_7 t) fullShare X))

set_option maxHeartbeats 800000 in
/-- The body at any point: its triple at the input blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%Y5, -, H5⟩, ⟨%Y6, -, H6⟩, ⟨%Y7, -, H7⟩⟩
  iapply ((kernelRun (F := F) c (grid0.coords t) _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%X5, H5⟩, ⟨%X6, H6⟩, ⟨%X7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr; swap; · iexact H5
    ipureintro; exact trivial
  isplitl [H6]
  · iexists _; isplitr; swap; · iexact H6
    ipureintro; exact trivial
  iexists _; isplitr; swap; · iexact H7
  ipureintro; exact trivial

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligationRel (dats m 0 c) (defs₀ (F := F)) Variants.none () Set.univ marked (relOf (F := F) c) := fun t => by
  rw [bigSep_W0, bigSep_W0, defs₀_row]
  exact triple_restated (sound_body m c t) rfl .rfl fun _ => .rfl

set_option backward.isDefEq.respectTransparency.types false in
/-- The launch: the frame post over the relational data, and every counter at zero. -/
theorem run_main_quiescent : θ_run defs (onTc (τ := τ) (main (F := F))) (s₀ m ρ)
    (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- A run leaves the arguments as it found them and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => ⟨
      ((hr.1 c).2 main_arg0 (Pipeline.mem_restRefs_of main_arg0 (by decide) (by decide))).trans (V_main_arg0 m c),
      (Pipeline.RDat.FramePost.arr_in hr.1 c 1 rfl).trans (V_main_arg1 m c),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c)⟩, hr.2⟩)
    (run_main_quiescent m ρ)

end Cert.Kernel.Unread
end
-- ==== Proof.Body.lean ====
/- What one grid point of the kernel leaves in its three output blocks, as functions of its five input
   blocks, and the body's triple that says so. The twelve column chunks share one definition of each
   step (`nrOf`, `ssOf`, `mxOf`, `codesOf`). -/
module

public import proofs.«01_k».proof.Proof.Gen.KernelIdeal.Frame
public import proofs.«01_k».proof.Proof.Gen.KernelIdeal.Skeleton
public import Idealize.ShloMosaic.Lib.Ring
public import Idealize.ShloMosaic.Lib.Tactic
public import Idealize.ShloMosaic.Lib.WordCmp
public import Idealize.ShloMosaic.Lib.Writes
public import Idealize.ShloMosaic.Lib.WritesUnit
public import Idealize.ShloMosaic.Lib.Pipeline.Value

@[expose] public section

set_option maxRecDepth 16384

noncomputable section

namespace Cert.KernelIdeal.Body
open Cert.KernelIdeal.Gen
open Cert.KernelIdeal.Facts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The columns of chunk `c` of the shards' codes. -/
def colsP (c : Fin 12) : Rect S4x32x12288 :=
  Rect.unit ![0, 0, 1024 * c.val] S4x32x1024.size (by intro a; fin_cases a <;> simp <;> omega)

/-- The columns of chunk `c` of a row vector (bias, gain). -/
def colsB (c : Fin 12) : Rect S1x12288 :=
  Rect.unit ![0, 1024 * c.val] S1x1024.size (by intro a; fin_cases a <;> simp <;> omega)

/-- The columns of chunk `c` of a block of 32 rows. -/
def colsX (c : Fin 12) : Rect S32x12288 :=
  Rect.unit ![0, 1024 * c.val] S32x1024.size (by intro a; fin_cases a <;> simp <;> omega)

/-- The batch row of the result array this grid point writes. -/
def rowY (i : grid0.Coords) : Rect S2x128 := Rect.unit (s := S2x128) (k0_off5 i) S1x128.size (k0_off5_inb i)

/-- The first lane of the grid point's 32 rows within its batch row, as the program computes it. -/
def firstOf (i : grid0.Coords) : BitVec 32 := Scalar.muli (Scalar.remsi (BitVec.ofNat 32 (i 0).val) 4#32) 32#32

/-- The matrix whose 32 × 128 entries hold the four shards' scales on four shifted diagonals. -/
def mixOf (i : grid0.Coords) (x1 : Vec F S4x2x128 .f32) : FVec F S32x128 .bf16 :=
  k0_pay3 (firstOf i) (iota .tc S32x128 32 [1] iota_S32x128_d1_w32) (iota .tc S32x128 32 [0] iota_S32x128_d0_w32)
    (k0_pay1 i (View.ld x1 (Rect.unit (s := S4x2x128) (k0_off1 i) S1x1x128.size (k0_off1_inb i)))
      (View.ld x1 (Rect.unit (s := S4x2x128) (k0_off2 i) S1x1x128.size (k0_off2_inb i))))
    (k0_pay2 (View.ld x1 (Rect.unit (s := S4x2x128) (k0_off3 i) S1x1x128.size (k0_off3_inb i))))
    (Scalar.addi (Scalar.subi 64#32 (firstOf i)) 128#32)
    (View.ld x1 (Rect.unit (s := S4x2x128) (k0_off4 i) S1x1x128.size (k0_off4_inb i)))

/-- The residual's columns of chunk `c`. -/
def nrOf (i : grid0.Coords) (x0 : Vec F S4x32x12288 .fp8e4m3) (x1 : Vec F S4x2x128 .f32) (x2 : Vec F S1x12288 .f32)
    (x3 : Vec F S32x12288 .bf16) (c : Fin 12) : FVec F S32x1024 .bf16 :=
  k0_pay12 (mixOf i x1) (View.ld x0 (colsP c)) (View.ld x2 (colsB c)) (View.ld x3 (colsX c))

/-- The running sums of squares after the first `n` chunks, per row and lane. -/
def ssOf (nr : Fin 12 → FVec F S32x1024 .bf16) : (n : ℕ) → n ≤ 12 → FVec F S32x128 .f32
  | 0, _ => k0_pay4
  | n + 1, h => k0_pay14 (ssOf nr n (by omega)) (nr ⟨n, h⟩)

/-- The running maxima of `|residual * gain|` after the first `n` chunks, per row and lane. -/
def mxOf (nr : Fin 12 → FVec F S32x1024 .bf16) (x4 : Vec F S1x12288 .f32) : (n : ℕ) → n ≤ 12 → FVec F S32x128 .f32
  | 0, _ => k0_pay5
  | n + 1, h => k0_pay15 (mxOf nr x4 n (by omega)) (nr ⟨n, h⟩) (View.ld x4 (colsB ⟨n, h⟩))

/-- The reciprocal root mean square of a row, from the sums of squares per lane. -/
def rsOf (ss : FVec F S32x128 .f32) : FVec F S32x1 .f32 :=
  rsqrt (addf (divf (shapeCast S32x1 (multiReduction .add [1] S32 ss 0x00000000#32 reduces_S32x128_S32 (.inl rfl) rfl) shapeCasts_S32_S32x1)
    (broadcast S32x1 (Scalar.ofBits .f32 0x46400000#32))) (broadcast S32x1 (Scalar.ofBits .f32 0x358637BD#32)))

/-- The largest absolute value of a normalised row, from the maxima per lane and the reciprocal root mean square. -/
def aOf (mx : FVec F S32x128 .f32) (rs : FVec F S32x1 .f32) : FVec F S32x1 .f32 :=
  mulf (shapeCast S32x1 (multiReduction .maximumf [1] S32 mx 0xFF800000#32 reduces_S32x128_S32 (.inl rfl) rfl) shapeCasts_S32_S32x1) rs

/-- The factor each residual of a row is multiplied by before the gain. -/
def fOf (nr : Fin 12 → FVec F S32x1024 .bf16) (x4 : Vec F S1x12288 .f32) : FVec F S32x1 .f32 :=
  k0_pay90 (rsOf (ssOf nr 12 le_rfl)) (aOf (mxOf nr x4 12 le_rfl) (rsOf (ssOf nr 12 le_rfl))) k0_pay87

/-- The scale of each row. -/
def scaleOf (nr : Fin 12 → FVec F S32x1024 .bf16) (x4 : Vec F S1x12288 .f32) : FVec F S32x1 .f32 :=
  k0_pay89 (aOf (mxOf nr x4 12 le_rfl) (rsOf (ssOf nr 12 le_rfl))) k0_pay87

/-- The twelve chunks, the last first: the order of the stores. -/
def chunks : List (Fin 12) := [11, 10, 9, 8, 7, 6, 5, 4, 3, 2, 1, 0]

/-- Twelve stores, one per chunk of columns. -/
def piecesOf {e : EltTy} (w : Fin 12 → Vec F S32x1024 e) : List (View.Piece (Elt F) S32x12288 e) :=
  chunks.map fun c => ⟨colsX c, w c⟩

/-- The twelve stores cover the block of 32 rows. -/
theorem piecesOf_cover {e : EltTy} (w : Fin 12 → Vec F S32x1024 e) (y : S32x12288.Idx) : ∃ p ∈ piecesOf (F := F) w, y ∈ p.1.set :=
  View.cover_of_tiled (piecesOf w) S32x1024.size rfl y

/-- The codes' columns of chunk `c`, from the residuals read back from their block. -/
def codesOf (f : FVec F S32x1 .f32) (nr : Fin 12 → FVec F S32x1024 .bf16) (x4 : Vec F S1x12288 .f32) (c : Fin 12) : FVec F S32x1024 .fp8e4m3 :=
  k0_pay94 f (nr c) (View.ld x4 (colsB c))

/-- The batch row of scales the point writes, from the row it found. -/
def ysOf (i : grid0.Coords) (scale : FVec F S32x1 .f32) (old : Vec F S1x128 .f32) : FVec F S1x128 .f32 :=
  k0_pay109 (firstOf i) scale old

/-- One store through a rectangle leaves what was there with the rectangle's part replaced. -/
theorem read_one_store {κ : Kind} {sp : Space} {s : Shape} {e : EltTy} (v : View sig κ sp s e) (f : v.ty.Contents (Elt F)) (r : Rect s)
    (w : r.shape.Idx → Elt F e) : v.read (Elt F) (v.writes (Elt F) f [⟨r, w⟩]) = r.overlay (v.read (Elt F) f) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons, View.read_slice_write_of_not_mem r _ _ _ (by rwa [Rect.map_emb_univ])]
    rfl

/-- The body's triple: on whole staging buffers, the inputs at their contents, the body leaves the residual block
    at the twelve residual stores, the code block at the twelve code stores (each of the residuals read back), and
    the scale array as it was with the point's batch row replaced by `ysOf` of it. -/
theorem kernelRun (c : Dev nD) (i : grid0.Coords) (arg1 : Memref sig .tc .vmem S4x32x12288 .fp8e4m3) (harg1 : arg1.IsWhole) (arg2 : Memref sig .tc .vmem S4x2x128 .f32) (harg2 : arg2.IsWhole) (arg3 : Memref sig .tc .vmem S1x12288 .f32) (harg3 : arg3.IsWhole) (arg4 : Memref sig .tc .vmem S32x12288 .bf16) (harg4 : arg4.IsWhole) (arg5 : Memref sig .tc .vmem S1x12288 .f32) (harg5 : arg5.IsWhole) (arg6 : Memref sig .tc .vmem S32x12288 .bf16) (harg6 : arg6.IsWhole) (arg7 : Memref sig .tc .vmem S32x12288 .fp8e4m3) (harg7 : arg7.IsWhole) (arg8 : Memref sig .tc .vmem S2x128 .f32) (harg8 : arg8.IsWhole)
    (x0 : Vec F S4x32x12288 .fp8e4m3) (x1 : Vec F S4x2x128 .f32) (x2 : Vec F S1x12288 .f32) (x3 : Vec F S32x12288 .bf16) (x4 : Vec F S1x12288 .f32) (d7 : Vec F S2x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare d7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ owns (c : Thread nD τ) arg6 fullShare (View.canon (piecesOf (F := F) (e := .bf16) (nrOf i x0 x1 x2 x3)))
                ∗ owns (c : Thread nD τ) arg7 fullShare (View.canon (piecesOf (F := F) (e := .fp8e4m3) (codesOf (fOf (nrOf i x0 x1 x2 x3) x4)
                    (fun k => View.ld (View.canon (piecesOf (F := F) (e := .bf16) (nrOf i x0 x1 x2 x3))) (colsX k)) x4)))
                ∗ owns (c : Thread nD τ) arg8 fullShare ((rowY i).overlay d7 (ysOf i (scaleOf (nrOf i x0 x1 x2 x3) x4) (View.ld d7 (rowY i))))) -∗ K ⟨⟩))
          ⊢ wp frame (wpE (defs₀ (F := F)) Variants.none c none) E (cc0_recv_rmsnorm_quant i arg1 harg1 arg2 harg2 arg3 harg3 arg4 harg4 arg5 harg5 arg6 harg6 arg7 harg7 arg8 harg8) K := by
    intro E K
    simp only [cc0_recv_rmsnorm_quant_eq_skeleton]; unfold cc0_recv_rmsnorm_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
    subst hf0; subst hf1; subst hf2; subst hf3; subst hf4; subst hf7
    sl_exec
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; swap; · iexact H5
      ipureintro
      refine (congrArg (fun L => arg6.view.read _ (arg6.view.writes _ f5 L)) (?_ : _ = piecesOf (F := F) (e := .bf16) (nrOf i (arg1.view.read _ f0) (arg2.view.read _ f1) (arg3.view.read _ f2) (arg4.view.read _ f3)))).trans
        (View.read_writes_eq_canon _ _ _ (piecesOf_cover _))
      rfl
    isplitl [H6]
    · iexists _; isplitr; swap; · iexact H6
      ipureintro
      refine (congrArg (fun L => arg7.view.read _ (arg7.view.writes _ f6 L)) (?_ : _ = piecesOf (F := F) (e := .fp8e4m3) (codesOf (fOf (nrOf i (arg1.view.read _ f0) (arg2.view.read _ f1) (arg3.view.read _ f2) (arg4.view.read _ f3)) (arg5.view.read _ f4))
          (fun k => arg6.view.readCov (piecesOf (F := F) (e := .bf16) (nrOf i (arg1.view.read _ f0) (arg2.view.read _ f1) (arg3.view.read _ f2) (arg4.view.read _ f3))) (colsX k).toLoadRect) (arg5.view.read _ f4)))).trans
        ((View.read_writes_eq_canon _ _ _ (piecesOf_cover _)).trans ?_)
      · rfl
      · refine congrArg (fun g => View.canon (piecesOf (F := F) (e := .fp8e4m3) (codesOf _ g _))) (funext fun k => ?_)
        exact View.readCov_eq_canon_ld _ _ _ (piecesOf_cover _)
    iexists _; isplitr; swap; · iexact H7
    ipureintro
    refine (congrArg (fun L => arg8.view.read _ (arg8.view.writes _ f7 L)) (?_ : _ = [(⟨rowY i, ysOf i (scaleOf (nrOf i (arg1.view.read _ f0) (arg2.view.read _ f1) (arg3.view.read _ f2) (arg4.view.read _ f3)) (arg5.view.read _ f4))
        (View.ld (arg8.view.read _ f7) (rowY i))⟩ : View.Piece (Elt F) S2x128 .f32)])).trans (read_one_store _ _ _ _)
    rfl

end Cert.KernelIdeal.Body

end
-- ==== Proof.Values.lean ====
/- The kernel's blocks at the ideal values, entry by entry: the residual as a sum over the four shards, the row sums
   and row maxima over the twelve column chunks, the codes and the row of scales. -/
module

public import proofs.«01_k».proof.Proof.Body
public import Idealize.ShloMosaic.Lib.Pointwise
public import Idealize.ShloMosaic.Lib.MatmulPlain
public import Idealize.ShloMosaic.PureOps.Ideal
public import Idealize.ShloMosaic.Lib.Pipeline.ValueKit.Tiles

@[expose] public section

noncomputable section

namespace Cert.KernelIdeal.Vals
open Cert.KernelIdeal.Gen Cert.KernelIdeal.Facts Cert.KernelIdeal.Body
open Idealize.ShloMosaic

/-- The batch row of a grid point. -/
def bRow (n : Fin 8) : Fin 2 := ⟨n.val / 4, by omega⟩

/-- Row `r` of a grid point's block, as a row of its batch. -/
def sRow (n : Fin 8) (r : Fin 32) : Fin 128 := ⟨n.val % 4 * 32 + r.val, by omega⟩

/-- Column `l` of chunk `c`. -/
def col (c : Fin 12) (l : Fin 1024) : Fin 12288 := ⟨1024 * c.val + l.val, by omega⟩

/-- The shift of a shard's scales brings row `r`'s scale to lane `32 * p + r`. -/
theorem shift_val : ∀ (n : Fin 8) (p : Fin 4),
    (Scalar.remsi (Scalar.addi (Scalar.subi (BitVec.ofNat 32 (32 * p.val)) (Scalar.muli (Scalar.remsi (BitVec.ofNat 32 n.val) 4#32) 32#32)) 128#32) 128#32).toNat % 128
      = (32 * p.val + 128 - n.val % 4 * 32) % 128 := by decide

/-- Lane `l` is on shard `p`'s diagonal at row `r` exactly when `l = 32 * p + r`. -/
theorem diag_iff (p : Fin 4) (r : Fin 32) (l : Fin 128) :
    (BitVec.ofNat 32 l.val = BitVec.ofNat 32 (32 * p.val) + BitVec.ofNat 32 r.val) ↔ l.val = 32 * p.val + r.val := by
  rw [← BitVec.toNat_inj]
  simp only [BitVec.toNat_add, BitVec.toNat_ofNat]
  omega

/-- One selection along a diagonal: on it the shard's scale of the row, off it what was there. -/
theorem sel_step (p : Fin 4) (n : Fin 8) (r : Fin 32) (l : Fin 128) (v : Fin 128 → EReal) (old : EReal) (k : Fin 128)
    (hk : k.val = (l.val + 128 - (Scalar.remsi (Scalar.addi (Scalar.subi (BitVec.ofNat 32 (32 * p.val)) (Scalar.muli (Scalar.remsi (BitVec.ofNat 32 n.val) 4#32) 32#32)) 128#32) 128#32).toNat % 128) % 128) :
    Scalar.select (IntOp.cmpi CmpIPredicate.eq (BitVec.ofNat 32 l.val) (IntOp.addi (BitVec.ofNat 32 (32 * p.val)) (BitVec.ofNat 32 r.val))) (v k) old
      = if l.val = 32 * p.val + r.val then v (sRow n r) else old := by
  rw [shift_val] at hk
  have hc : IntOp.cmpi CmpIPredicate.eq (BitVec.ofNat 32 l.val) (IntOp.addi (BitVec.ofNat 32 (32 * p.val)) (BitVec.ofNat 32 r.val))
      = BitVec.ofBool (decide (l.val = 32 * p.val + r.val)) := by
    simp only [← diag_iff]
    rfl
  rw [hc]
  by_cases h : l.val = 32 * p.val + r.val
  · have : k = sRow n r := by apply Fin.ext; rw [hk]; simp only [sRow]; omega
    rw [this]
    simp [h, Scalar.select]
  · simp [h, Scalar.select]

/-- A shard's scale of row `r` of the point's block. -/
def scl (n : Fin 8) (x1 : Vec Ideal S4x2x128 .f32) (p : Fin 4) (r : Fin 32) : EReal := x1 (ix3 p (bRow n) (sRow n r))

/-- One shard's row of scales, loaded from the block of all scales. -/
theorem ld_scales (x1 : Vec Ideal S4x2x128 .f32) (off : Fin 3 → ℕ) (inb : ∀ a, off a + S1x1x128.size a ≤ S4x2x128.size a) (p : Fin 4) (n : Fin 8)
    (k : Fin 128) (h : off = ![p.val, n.val / 4, 0]) :
    View.ld x1 (Rect.unit (s := S4x2x128) off S1x1x128.size inb) (ix3 0 0 k) = x1 (ix3 p (bRow n) k) := by
  subst h
  refine View.ld_unit_apply_of x1 _ _ _ _ _ fun a => ?_
  match a with
  | ⟨0, _⟩ => rfl
  | ⟨1, _⟩ => rfl
  | ⟨2, _⟩ => exact (Nat.zero_add _).symm

/-- Four nested selections along the diagonals are one: the shard is the lane over 32. -/
theorem diag_cases (r : Fin 32) (l : Fin 128) (s : Fin 4 → EReal) :
    (if l.val = 32 * (3 : Fin 4).val + r.val then s 3 else if l.val = 32 * (2 : Fin 4).val + r.val then s 2 else
      if l.val = 32 * (1 : Fin 4).val + r.val then s 1 else if l.val = 32 * (0 : Fin 4).val + r.val then s 0 else 0)
      = if l.val % 32 = r.val then s ⟨l.val / 32, by omega⟩ else 0 := by
  have h3 : (3 : Fin 4).val = 3 := rfl
  have h2 : (2 : Fin 4).val = 2 := rfl
  have h1 : (1 : Fin 4).val = 1 := rfl
  have h0 : (0 : Fin 4).val = 0 := rfl
  by_cases hm : l.val % 32 = r.val
  · have hq : l.val / 32 = 0 ∨ l.val / 32 = 1 ∨ l.val / 32 = 2 ∨ l.val / 32 = 3 := by omega
    rw [if_pos hm]
    rcases hq with hq | hq | hq | hq
    · rw [if_neg (by omega), if_neg (by omega), if_neg (by omega), if_pos (by omega)]
      exact congrArg s (Fin.ext hq.symm)
    · rw [if_neg (by omega), if_neg (by omega), if_pos (by omega)]
      exact congrArg s (Fin.ext hq.symm)
    · rw [if_neg (by omega), if_pos (by omega)]
      exact congrArg s (Fin.ext hq.symm)
    · rw [if_pos (by omega)]
      exact congrArg s (Fin.ext hq.symm)
  · rw [if_neg hm, if_neg (by omega), if_neg (by omega), if_neg (by omega), if_neg (by omega)]

/-- The mixing matrix holds the shards' scales on its four diagonals and zero elsewhere. -/
theorem mixOf_apply (i : grid0.Coords) (x1 : Vec Ideal S4x2x128 .f32) (r : Fin 32) (l : Fin 128) :
    mixOf (F := Ideal) i x1 (ix2 r l) = if l.val % 32 = r.val then scl (i 0) x1 ⟨l.val / 32, by omega⟩ r else 0 := by
  have e1 : ∀ k : Fin 128, View.ld x1 (Rect.unit (s := S4x2x128) (k0_off1 i) S1x1x128.size (k0_off1_inb i)) (ix3 0 0 k) = x1 (ix3 0 (bRow (i 0)) k) :=
    fun k => ld_scales x1 _ _ 0 (i 0) k (k0_off1_eq i)
  have e2 : ∀ k : Fin 128, View.ld x1 (Rect.unit (s := S4x2x128) (k0_off2 i) S1x1x128.size (k0_off2_inb i)) (ix3 0 0 k) = x1 (ix3 1 (bRow (i 0)) k) :=
    fun k => ld_scales x1 _ _ 1 (i 0) k (k0_off2_eq i)
  have e3 : ∀ k : Fin 128, View.ld x1 (Rect.unit (s := S4x2x128) (k0_off3 i) S1x1x128.size (k0_off3_inb i)) (ix3 0 0 k) = x1 (ix3 2 (bRow (i 0)) k) :=
    fun k => ld_scales x1 _ _ 2 (i 0) k (k0_off3_eq i)
  have e4 : ∀ k : Fin 128, View.ld x1 (Rect.unit (s := S4x2x128) (k0_off4 i) S1x1x128.size (k0_off4_inb i)) (ix3 0 0 k) = x1 (ix3 3 (bRow (i 0)) k) :=
    fun k => ld_scales x1 _ _ 3 (i 0) k (k0_off4_eq i)
  unfold mixOf
  generalize View.ld x1 (Rect.unit (s := S4x2x128) (k0_off1 i) S1x1x128.size (k0_off1_inb i)) = v1 at e1 ⊢
  generalize View.ld x1 (Rect.unit (s := S4x2x128) (k0_off2 i) S1x1x128.size (k0_off2_inb i)) = v2 at e2 ⊢
  generalize View.ld x1 (Rect.unit (s := S4x2x128) (k0_off3 i) S1x1x128.size (k0_off3_inb i)) = v3 at e3 ⊢
  generalize View.ld x1 (Rect.unit (s := S4x2x128) (k0_off4 i) S1x1x128.size (k0_off4_inb i)) = v4 at e4 ⊢
  unfold k0_pay3 k0_pay2 k0_pay1 firstOf
  pointwise
  simp only [e1, e2, e3, e4]
  refine (sel_step 3 (i 0) r l (fun k => x1 (ix3 3 (bRow (i 0)) k)) _ _ rfl).trans ?_
  refine (congrArg (fun z => if l.val = 32 * (3 : Fin 4).val + r.val then x1 (ix3 3 (bRow (i 0)) (sRow (i 0) r)) else z)
    (sel_step 2 (i 0) r l (fun k => x1 (ix3 2 (bRow (i 0)) k)) _ _ rfl)).trans ?_
  refine (congrArg (fun z => if l.val = 32 * (3 : Fin 4).val + r.val then x1 (ix3 3 (bRow (i 0)) (sRow (i 0) r)) else
      if l.val = 32 * (2 : Fin 4).val + r.val then x1 (ix3 2 (bRow (i 0)) (sRow (i 0) r)) else z)
    (sel_step 1 (i 0) r l (fun k => x1 (ix3 1 (bRow (i 0)) k)) _ _ rfl)).trans ?_
  refine (congrArg (fun z => if l.val = 32 * (3 : Fin 4).val + r.val then x1 (ix3 3 (bRow (i 0)) (sRow (i 0) r)) else
      if l.val = 32 * (2 : Fin 4).val + r.val then x1 (ix3 2 (bRow (i 0)) (sRow (i 0) r)) else
      if l.val = 32 * (1 : Fin 4).val + r.val then x1 (ix3 1 (bRow (i 0)) (sRow (i 0) r)) else z)
    (sel_step 0 (i 0) r l (fun k => x1 (ix3 0 (bRow (i 0)) k)) _ _ rfl)).trans ?_
  exact diag_cases r l (fun p => scl (i 0) x1 p r)

/-- The residual at row `r` of the point's block and column `k`: the shards' codes times their scales, the bias, the
    incoming residual. -/
def resid (n : Fin 8) (x0 : Vec Ideal S4x32x12288 .fp8e4m3) (x1 : Vec Ideal S4x2x128 .f32) (x2 : Vec Ideal S1x12288 .f32)
    (x3 : Vec Ideal S32x12288 .bf16) (r : Fin 32) (k : Fin 12288) : EReal :=
  (∑ p : Fin 4, scl n x1 p r * (x0 (ix3 p r k) : EReal)) + x2 (ix2 0 k) + x3 (ix2 r k)

/-- A sum over the 128 pairs of shard and row that lives on one row's diagonal is the sum over the shards. -/
theorem sum_diag (r : Fin 32) (s : Fin 4 → EReal) (q : Fin 4 → Fin 32 → EReal) :
    ∑ x : Fin 128, (if x.val % 32 = r.val then s ⟨x.val / 32, by omega⟩ else 0) * q ⟨x.val / 32, by omega⟩ ⟨x.val % 32, by omega⟩
      = ∑ p : Fin 4, s p * q p r := by
  rw [← (finProdFinEquiv (m := 4) (n := 32)).sum_comp, Fintype.sum_prod_type]
  refine Finset.sum_congr rfl fun p _ => ?_
  rw [Finset.sum_eq_single r]
  · have h1 : (r.val + 32 * p.val) % 32 = r.val := by omega
    have h2 : (r.val + 32 * p.val) / 32 = p.val := by omega
    simp [finProdFinEquiv, h1, h2]
  · intro j _ hj
    have h1 : (j.val + 32 * p.val) % 32 = j.val := by omega
    have h2 : ¬ j.val = r.val := fun h => hj (Fin.ext h)
    simp [finProdFinEquiv, h1, h2]
  · intro h; exact absurd (Finset.mem_univ _) h

/-- A chunk of a row vector read at a lane. -/
theorem ld_colsB {e : EltTy} (x : Vec Ideal S1x12288 e) (c : Fin 12) (l : Fin 1024) : View.ld x (colsB c) (ix2 0 l) = x (ix2 0 (col c l)) := by
  refine View.ld_unit_apply_of x _ _ _ _ _ fun a => ?_
  fin_cases a <;> simp [col]

/-- A chunk of a block of rows read at a row and a lane. -/
theorem ld_colsX {e : EltTy} (x : Vec Ideal S32x12288 e) (c : Fin 12) (r : Fin 32) (l : Fin 1024) : View.ld x (colsX c) (ix2 r l) = x (ix2 r (col c l)) := by
  refine View.ld_unit_apply_of x _ _ _ _ _ fun a => ?_
  fin_cases a <;> simp [col]

/-- A chunk of the shards' codes read at a shard, a row and a lane. -/
theorem ld_colsP {e : EltTy} (x : Vec Ideal S4x32x12288 e) (c : Fin 12) (p : Fin 4) (r : Fin 32) (l : Fin 1024) :
    View.ld x (colsP c) (ix3 p r l) = x (ix3 p r (col c l)) := by
  refine View.ld_unit_apply_of x _ _ _ _ _ fun a => ?_
  fin_cases a <;> simp [col]

/-- One chunk of the residual over any loaded blocks: the matrix product, the bias and the incoming residual. -/
theorem pay12_apply (v58 : FVec Ideal S32x128 .bf16) (p : Vec Ideal S4x32x1024 .fp8e4m3) (b : Vec Ideal S1x1024 .f32) (x : Vec Ideal S32x1024 .bf16)
    (r : Fin 32) (l : Fin 1024) : k0_pay12 (F := Ideal) v58 p b x (ix2 r l)
      = ∑ k : Fin 128, v58 (ix2 r k) * p (ix3 ⟨k.val / 32, by omega⟩ ⟨k.val % 32, by omega⟩ l) + b (ix2 0 l) + x (ix2 r l) := by
  unfold k0_pay12
  pointwise

/-- A residual chunk holds the residual at its columns. -/
theorem nrOf_apply (i : grid0.Coords) (x0 : Vec Ideal S4x32x12288 .fp8e4m3) (x1 : Vec Ideal S4x2x128 .f32) (x2 : Vec Ideal S1x12288 .f32)
    (x3 : Vec Ideal S32x12288 .bf16) (c : Fin 12) (r : Fin 32) (l : Fin 1024) :
    nrOf (F := Ideal) i x0 x1 x2 x3 c (ix2 r l) = resid (i 0) x0 x1 x2 x3 r (col c l) := by
  have hP := fun p r l => ld_colsP x0 c p r l
  have hB := fun l => ld_colsB x2 c l
  have hX := fun r l => ld_colsX x3 c r l
  have hM := fun r l => mixOf_apply i x1 r l
  unfold nrOf
  generalize View.ld x0 (colsP c) = p at hP ⊢
  generalize View.ld x2 (colsB c) = b at hB ⊢
  generalize View.ld x3 (colsX c) = x at hX ⊢
  generalize mixOf (F := Ideal) i x1 = v at hM ⊢
  refine (pay12_apply v p b x r l).trans ?_
  simp only [hM, hP, hB, hX]
  unfold resid
  refine congrArg (fun z : EReal => z + (x2 (ix2 0 (col c l)) : EReal) + (x3 (ix2 r (col c l)) : EReal)) ?_
  exact sum_diag r (fun p => scl (i 0) x1 p r) (fun p j => x0 (ix3 p j (col c l)))

/-- Twelve chunk stores that hold one function's values at their columns leave that function. -/
theorem canon_pieces {e : EltTy} (w : Fin 12 → Vec Ideal S32x1024 e) (G : Fin 32 → Fin 12288 → Elt Ideal e)
    (h : ∀ c r l, w c (ix2 r l) = G r (col c l)) (r : Fin 32) (k : Fin 12288) :
    View.canon (piecesOf (F := Ideal) w) (ix2 r k) = G r k := by
  refine View.canon_apply_of_pieces (fun y => G (y 0) (y 1)) _ (fun p hp x => ?_) (ix2 r k) (piecesOf_cover w _)
  obtain ⟨c, _, rfl⟩ := List.mem_map.mp hp
  have hx : x = ix2 (x 0) (x 1) := by funext a; match a with | ⟨0, _⟩ => rfl | ⟨1, _⟩ => rfl
  refine (congrArg (w c) hx).trans ((h c (x 0) (x 1)).trans ?_)
  refine congrArg₂ G (Fin.ext ?_) (Fin.ext ?_)
  · show (x 0).val = 0 + 1 * (x 0).val
    rw [Nat.one_mul, Nat.zero_add]
  · show 1024 * c.val + (x 1).val = 1024 * c.val + 1 * (x 1).val
    rw [Nat.one_mul]

/-- The codes of chunk `c` from any residual chunk. -/
theorem codesOf_apply (f : FVec Ideal S32x1 .f32) (nr : Fin 12 → FVec Ideal S32x1024 .bf16) (x4 : Vec Ideal S1x12288 .f32) (c : Fin 12)
    (r : Fin 32) (l : Fin 1024) : codesOf (F := Ideal) f nr x4 c (ix2 r l)
      = min (Ideal.ofBits FTy.f32 0x43E00000#32) (max (Ideal.ofBits FTy.f32 0xC3E00000#32) (nr c (ix2 r l) * f (ix2 r 0) * (x4 (ix2 0 (col c l)) : EReal))) := by
  have hB := fun l => ld_colsB x4 c l
  unfold codesOf
  generalize View.ld x4 (colsB c) = b at hB ⊢
  rw [← hB]
  generalize nr c = v
  unfold k0_pay94
  pointwise

/-- Lane `j * 128 + l` of a chunk. -/
def lane (j : Fin 8) (l : Fin 128) : Fin 1024 := ⟨128 * j.val + l.val, by omega⟩

/-- One chunk's step of the running sums of squares. -/
theorem pay14_apply (acc : FVec Ideal S32x128 .f32) (v : FVec Ideal S32x1024 .bf16) (r : Fin 32) (l : Fin 128) :
    k0_pay14 (F := Ideal) acc v (ix2 r l) = acc (ix2 r l) + ∑ j : Fin 8, v (ix2 r (lane j l)) * v (ix2 r (lane j l)) := by
  unfold k0_pay14 k0_pay13
  pointwise
  simp only [Fin.sum_univ_eight, lane, Fin.val_zero, Nat.mul_zero, Nat.zero_add]
  refine congrArg (acc (ix2 r l) + ·) ?_
  simp only [add_assoc]
  rfl

/-- The absolute value of an extended real. -/
def eabs (y : EReal) : EReal := max y (-y)

/-- One chunk's step of the running maxima, by its upper bounds. -/
theorem pay15_le (acc : FVec Ideal S32x128 .f32) (v : FVec Ideal S32x1024 .bf16) (g : Vec Ideal S1x1024 .f32) (r : Fin 32) (l : Fin 128) (z : EReal) :
    (k0_pay15 (F := Ideal) acc v g (ix2 r l) : EReal) ≤ z
      ↔ (acc (ix2 r l) : EReal) ≤ z ∧ ∀ j : Fin 8, eabs (v (ix2 r (lane j l)) * (g (ix2 0 (lane j l)) : EReal)) ≤ z := by
  have h : k0_pay15 (F := Ideal) acc v g (ix2 r l) = max (acc (ix2 r l) : EReal) (max
      (max (max (eabs (v (ix2 r (lane 0 l)) * (g (ix2 0 (lane 0 l)) : EReal))) (eabs (v (ix2 r (lane 1 l)) * (g (ix2 0 (lane 1 l)) : EReal))))
        (max (eabs (v (ix2 r (lane 2 l)) * (g (ix2 0 (lane 2 l)) : EReal))) (eabs (v (ix2 r (lane 3 l)) * (g (ix2 0 (lane 3 l)) : EReal)))))
      (max (max (eabs (v (ix2 r (lane 4 l)) * (g (ix2 0 (lane 4 l)) : EReal))) (eabs (v (ix2 r (lane 5 l)) * (g (ix2 0 (lane 5 l)) : EReal))))
        (max (eabs (v (ix2 r (lane 6 l)) * (g (ix2 0 (lane 6 l)) : EReal))) (eabs (v (ix2 r (lane 7 l)) * (g (ix2 0 (lane 7 l)) : EReal)))))) := by
    unfold k0_pay15 k0_pay13
    pointwise
    simp only [Ideal.absf_def, lane, eabs, Fin.val_zero, Nat.mul_zero, Nat.zero_add]
    rfl
  rw [h]
  simp only [max_le_iff, Fin.forall_fin_succ, Fin.forall_fin_zero_pi]
  constructor
  · rintro ⟨h, ⟨⟨h0, h1⟩, h2, h3⟩, ⟨h4, h5⟩, h6, h7⟩
    exact ⟨h, h0, h1, h2, h3, h4, h5, h6, h7, fun i => i.elim0⟩
  · rintro ⟨h, h0, h1, h2, h3, h4, h5, h6, h7, -⟩
    exact ⟨h, ⟨⟨h0, h1⟩, h2, h3⟩, ⟨h4, h5⟩, h6, h7⟩

/-- The running sums of squares after `n` chunks are the sums over those chunks. -/
theorem ssOf_apply (nr : Fin 12 → FVec Ideal S32x1024 .bf16) (R : Fin 32 → Fin 12288 → EReal) (hR : ∀ c r l, nr c (ix2 r l) = R r (col c l))
    (r : Fin 32) (l : Fin 128) : ∀ (n : ℕ) (h : n ≤ 12), ssOf (F := Ideal) nr n h (ix2 r l)
      = ∑ c : Fin n, ∑ j : Fin 8, R r (col (Fin.castLE h c) (lane j l)) * R r (col (Fin.castLE h c) (lane j l))
  | 0, _ => by
    unfold ssOf k0_pay4
    pointwise
    simp
  | n + 1, h => by
    rw [Fin.sum_univ_castSucc]
    refine (pay14_apply _ _ r l).trans ?_
    rw [ssOf_apply nr R hR r l n (by omega)]
    simp only [hR]
    rfl

/-- The running maxima after `n` chunks, by their upper bounds. -/
theorem mxOf_le (nr : Fin 12 → FVec Ideal S32x1024 .bf16) (x4 : Vec Ideal S1x12288 .f32) (R : Fin 32 → Fin 12288 → EReal)
    (hR : ∀ c r l, nr c (ix2 r l) = R r (col c l)) (r : Fin 32) (l : Fin 128) (z : EReal) : ∀ (n : ℕ) (h : n ≤ 12),
    (mxOf (F := Ideal) nr x4 n h (ix2 r l) : EReal) ≤ z
      ↔ 0 ≤ z ∧ ∀ (c : Fin n) (j : Fin 8), eabs (R r (col (Fin.castLE h c) (lane j l)) * (x4 (ix2 0 (col (Fin.castLE h c) (lane j l))) : EReal)) ≤ z
  | 0, _ => by
    have h0 : mxOf (F := Ideal) nr x4 0 (by omega) (ix2 r l) = (0 : EReal) := by
      unfold mxOf k0_pay5
      pointwise
    rw [h0]
    exact ⟨fun h => ⟨h, fun c => c.elim0⟩, fun h => h.1⟩
  | n + 1, h => by
    rw [Fin.forall_fin_succ']
    refine (pay15_le _ _ _ r l z).trans ?_
    rw [mxOf_le nr x4 R hR r l z n (by omega), and_assoc]
    refine and_congr_right fun _ => and_congr_right fun _ => forall_congr' fun j => ?_
    rw [hR]
    have hB := ld_colsB x4 ⟨n, h⟩ (lane j l)
    exact iff_of_eq (congrArg (fun y : EReal => eabs (R r (col ⟨n, h⟩ (lane j l)) * y) ≤ z) hB)

/-- A sum over chunks, slices and lanes is the sum over the columns. -/
theorem sum_cols (f : Fin 12288 → EReal) : ∑ l : Fin 128, ∑ c : Fin 12, ∑ j : Fin 8, f (col c (lane j l)) = ∑ k, f k := by
  rw [← (finProdFinEquiv (m := 12) (n := 1024)).sum_comp, Fintype.sum_prod_type, Finset.sum_comm]
  refine Finset.sum_congr rfl fun c _ => ?_
  rw [← (finProdFinEquiv (m := 8) (n := 128)).sum_comp, Fintype.sum_prod_type, Finset.sum_comm]
  refine Finset.sum_congr rfl fun j _ => Finset.sum_congr rfl fun l _ => congrArg f (Fin.ext ?_)
  simp only [col, lane, finProdFinEquiv, Equiv.coe_fn_mk]
  omega

/-- Every column is a lane of a slice of a chunk. -/
theorem exists_col (k : Fin 12288) : ∃ (c : Fin 12) (j : Fin 8) (l : Fin 128), k = col c (lane j l) :=
  ⟨⟨k.val / 1024, by omega⟩, ⟨k.val % 1024 / 128, by omega⟩, ⟨k.val % 128, by omega⟩, Fin.ext (by simp only [col, lane]; omega)⟩

/-- The reciprocal root mean square of a row of values. -/
def rsR (R : Fin 12288 → EReal) : EReal :=
  Ideal.rsqrt (Ideal.div (∑ k, R k * R k) (Ideal.ofBits FTy.f32 0x46400000#32) + Ideal.ofBits FTy.f32 0x358637BD#32)

/-- The largest absolute value of a row of values times the gain. -/
def mxR (R g : Fin 12288 → EReal) : EReal := Finset.univ.sup fun k => eabs (R k * g k)

/-- The reciprocal root mean square of a row, from the running sums of squares. -/
theorem rsOf_apply (ss : FVec Ideal S32x128 .f32) (r : Fin 32) :
    rsOf (F := Ideal) ss (ix2 r 0) = Ideal.rsqrt (Ideal.div (∑ l, ss (ix2 r l)) (Ideal.ofBits FTy.f32 0x46400000#32) + Ideal.ofBits FTy.f32 0x358637BD#32) := by
  unfold rsOf
  pointwise

/-- A row's largest normalised value, from the running maxima. -/
theorem aOf_apply (mx : FVec Ideal S32x128 .f32) (rs : FVec Ideal S32x1 .f32) (r : Fin 32) :
    aOf (F := Ideal) mx rs (ix2 r 0) = Finset.fold max (Ideal.ofBits FTy.f32 0xFF800000#32) (fun l => mx (ix2 r l)) Finset.univ * rs (ix2 r 0) := by
  unfold aOf
  pointwise

/-- The kernel's reciprocal root mean square of a row. -/
theorem rsOf_row (nr : Fin 12 → FVec Ideal S32x1024 .bf16) (R : Fin 32 → Fin 12288 → EReal) (hR : ∀ c r l, nr c (ix2 r l) = R r (col c l))
    (r : Fin 32) : rsOf (F := Ideal) (ssOf nr 12 le_rfl) (ix2 r 0) = rsR (R r) := by
  rw [rsOf_apply]
  simp only [ssOf_apply nr R hR]
  unfold rsR
  rw [← sum_cols fun k => R r k * R r k]
  rfl

/-- The word of minus infinity. -/
theorem ofBits_neg_inf : Ideal.ofBits FTy.f32 0xFF800000#32 = (⊥ : EReal) := by simp [Ideal.ofBits, Ideal.ieee]

/-- An absolute value is nonnegative. -/
theorem eabs_nonneg (y : EReal) : 0 ≤ eabs y := by
  rcases le_total 0 y with h | h
  · exact h.trans (le_max_left _ _)
  · exact (EReal.neg_nonneg.mpr h).trans (le_max_right _ _)

/-- The kernel's largest absolute value of a normalised row. -/
theorem aOf_row (nr : Fin 12 → FVec Ideal S32x1024 .bf16) (x4 : Vec Ideal S1x12288 .f32) (R : Fin 32 → Fin 12288 → EReal)
    (hR : ∀ c r l, nr c (ix2 r l) = R r (col c l)) (r : Fin 32) :
    aOf (F := Ideal) (mxOf nr x4 12 le_rfl) (rsOf (ssOf nr 12 le_rfl)) (ix2 r 0) = mxR (R r) (fun k => x4 (ix2 0 k)) * rsR (R r) := by
  rw [aOf_apply, rsOf_row nr R hR]
  refine congrArg (· * rsR (R r)) (eq_of_forall_ge_iff fun z => ?_)
  rw [Finset.fold_max_le]
  simp only [mxOf_le nr x4 R hR r]
  unfold mxR
  rw [Finset.sup_le_iff]
  constructor
  · rintro ⟨-, h⟩ k -
    obtain ⟨c, j, l, rfl⟩ := exists_col k
    exact (h l (Finset.mem_univ _)).2 c j
  · intro h
    refine ⟨?_, fun l _ => ⟨(eabs_nonneg _).trans (h 0 (Finset.mem_univ _)), fun c j => h _ (Finset.mem_univ _)⟩⟩
    rw [ofBits_neg_inf]
    exact bot_le

/-- The biased exponent by counting, then the exponent: zero where the count is 0 or 255. -/
def cnt (t : EReal) : BitVec 32 :=
  Finset.fold IntOp.addi (0#32) (fun x : Fin 256 => Scalar.select (IntOp.ori (IntOp.cmpi CmpIPredicate.eq (BitVec.ofNat 32 x.val) 0#32)
    (BitVec.ofBool (decide (t < Ideal.ofBits FTy.f32 (IntOp.shli ArithUnit.vector (BitVec.ofNat 32 x.val) 23#32))))) 0#32 1#32) Finset.univ

/-- The kernel's exponent. -/
def expK (t : EReal) : BitVec 32 :=
  Scalar.select (IntOp.ori (IntOp.cmpi CmpIPredicate.eq (cnt t) 0#32) (IntOp.cmpi CmpIPredicate.eq (cnt t) 255#32)) 0#32 (IntOp.subi (cnt t) 126#32)

/-- The kernel's scale. -/
def scaleK (t : EReal) : EReal := Ideal.ofBits FTy.f32 (IntOp.shli ArithUnit.vector (IntOp.addi 127#32 (expK t)) 23#32)
/-- The kernel's reciprocal scale. -/
def invK (t : EReal) : EReal := Ideal.ofBits FTy.f32 (IntOp.shli ArithUnit.vector (IntOp.subi 127#32 (expK t)) 23#32)

/-- The kernel's exponent of a row. -/
theorem pay88_apply (a : FVec Ideal S32x1 .f32) (r : Fin 32) :
    k0_pay88 (F := Ideal) a k0_pay87 (ix2 r 0) = expK (a (ix2 r 0) * Ideal.ofBits FTy.f32 0x3B124925#32) := by
  unfold k0_pay88 k0_pay87
  pointwise
  rfl

/-- The kernel's scale of a row. -/
theorem pay89_apply (a : FVec Ideal S32x1 .f32) (r : Fin 32) :
    k0_pay89 (F := Ideal) a k0_pay87 (ix2 r 0) = scaleK (a (ix2 r 0) * Ideal.ofBits FTy.f32 0x3B124925#32) := by
  unfold k0_pay89
  pointwise
  rw [pay88_apply]
  rfl

/-- The kernel's factor on a row: the reciprocal root mean square times the reciprocal scale. -/
theorem pay90_apply (rs a : FVec Ideal S32x1 .f32) (r : Fin 32) :
    k0_pay90 (F := Ideal) rs a k0_pay87 (ix2 r 0) = rs (ix2 r 0) * invK (a (ix2 r 0) * Ideal.ofBits FTy.f32 0x3B124925#32) := by
  unfold k0_pay90
  pointwise
  rw [pay88_apply]
  rfl

/-- The row's first lane as a number. -/
theorem first_lt : ∀ n : Fin 8, Scalar.muli (Scalar.remsi (BitVec.ofNat 32 n.val) 4#32) 32#32 = BitVec.ofNat 32 (n.val % 4 * 32) := by decide

/-- The written batch row over any first lane: the lanes before it kept, then the 32 scales, zero after. -/
theorem pay109_apply (f : ℕ) (hf : f + 32 ≤ 128) (sc : FVec Ideal S32x1 .f32) (old : Vec Ideal S1x128 .f32) (l : Fin 128) :
    (k0_pay109 (F := Ideal) (BitVec.ofNat 32 f) sc old (ix2 0 l) : EReal) = if l.val < f then (old (ix2 0 l) : EReal) else
      if h : l.val < f + 32 then sc (ix2 ⟨l.val - f, by omega⟩ 0) else 0 := by
  unfold k0_pay109
  pointwise
  have hc : IntOp.cmpi CmpIPredicate.slt (BitVec.ofNat 32 l.val) (BitVec.ofNat 32 f) = BitVec.ofBool (decide (l.val < f)) := by
    have ti : ∀ m, m < 128 → (BitVec.ofNat 32 m).toInt = (m : ℤ) := by
      intro m hm
      have h1 : (BitVec.ofNat 32 m).toNat = m := by rw [BitVec.toNat_ofNat]; omega
      rw [BitVec.toInt_eq_toNat_of_lt (by omega), h1]
    refine congrArg BitVec.ofBool ?_
    show BitVec.slt _ _ = _
    rw [BitVec.slt_eq_decide, ti _ l.isLt, ti _ (by omega)]
    simp
  have he : ∀ x : Fin 32, IntOp.cmpi CmpIPredicate.eq (BitVec.ofNat 32 l.val) (IntOp.addi (BitVec.ofNat 32 x.val) (BitVec.ofNat 32 f))
      = BitVec.ofBool (decide (l.val = x.val + f)) := by
    intro x
    have h1 : (BitVec.ofNat 32 l.val = BitVec.ofNat 32 x.val + BitVec.ofNat 32 f) ↔ l.val = x.val + f := by
      rw [← BitVec.toNat_inj]
      simp only [BitVec.toNat_add, BitVec.toNat_ofNat]
      omega
    simp only [← h1]
    rfl
  rw [hc]
  simp only [he]
  by_cases h : l.val < f
  · simp [h, Scalar.select]
  · rw [if_neg h]
    have hs : ∀ x y : EReal, Scalar.select (BitVec.ofBool (decide (l.val < f))) x y = y := by simp [h, Scalar.select]
    rw [hs]
    have hs2 : ∀ (x : Fin 32) (y : EReal), Scalar.select (BitVec.ofBool (decide (l.val = x.val + f))) y 0 = if l.val = x.val + f then y else 0 := by
      intro x y; by_cases hx : l.val = x.val + f <;> simp [hx, Scalar.select]
    simp only [hs2]
    by_cases h2 : l.val < f + 32
    · rw [dif_pos h2, Finset.sum_eq_single (⟨l.val - f, by omega⟩ : Fin 32)]
      · rw [if_pos (by show l.val = l.val - f + f; omega)]
      · intro b _ hb
        rw [if_neg fun hh => hb (Fin.ext (by show b.val = l.val - f; omega))]
      · intro hn; exact absurd (Finset.mem_univ _) hn
    · rw [dif_neg h2]
      exact Finset.sum_eq_zero fun x _ => if_neg (by omega)

/-- The batch row of scales after a point: the lanes before its rows kept, its rows' scales, zero after. -/
theorem ysOf_apply (i : grid0.Coords) (n : Fin 8) (hn : (i 0) = n) (sc : FVec Ideal S32x1 .f32) (old : Vec Ideal S1x128 .f32) (l : Fin 128) :
    (ysOf (F := Ideal) i sc old (ix2 0 l) : EReal) = if l.val < n.val % 4 * 32 then (old (ix2 0 l) : EReal) else
      if h : l.val < n.val % 4 * 32 + 32 then sc (ix2 ⟨l.val - n.val % 4 * 32, by omega⟩ 0) else 0 := by
  unfold ysOf firstOf
  subst hn
  rw [first_lt (i 0)]
  exact pay109_apply _ (by omega) sc old l

end Cert.KernelIdeal.Vals
end
-- ==== Proof.Inputs.lean ====
/- The kernel's input blocks read back to the program's arguments. -/
module

public import proofs.«01_k».proof.Proof.Values
public import Idealize.ShloMosaic.Lib.Claim

@[expose] public section

noncomputable section

namespace Cert.KernelIdeal.Vals
open Cert.KernelIdeal.Gen Cert.KernelIdeal.Facts Cert.KernelIdeal.Body
open Idealize.ShloMosaic Idealize.ShloMosaic.TcCoe

variable (m : (ℓ : Loc nD τ sig) → Buf (Elt Ideal) ℓ)

/-- A grid point as a number below 8. -/
def pt (t : Fin cfg0.N) : Fin 8 := ⟨t.val, t.isLt⟩

/-- The one coordinate of a grid point is its number. -/
theorem coords_val : ∀ t : Fin cfg0.N, (grid0.coords t 0).val = t.val :=
  (by decide : ∀ t : Fin grid0.N, (grid0.coords t 0).val = t.val)
/-- The same, as a number below 8. -/
theorem coords_pt (t : Fin cfg0.N) : grid0.coords t 0 = pt t := Fin.ext (coords_val t)

/-- The block index of the windows that move with the grid is the point's number; the others stay at zero. -/
theorem index0 : ∀ t : Fin cfg0.N, (cfg0.win 0).index t = ![0, t.val, 0] :=
  (by decide : ∀ t : Fin grid0.N, win0_0.index t = ![0, t.val, 0])
/-- The scales' window is the whole array. -/
theorem index1 : ∀ t : Fin cfg0.N, (cfg0.win 1).index t = ![0, 0, 0] :=
  (by decide : ∀ t : Fin grid0.N, win0_1.index t = ![0, 0, 0])
/-- The bias's window is the whole row. -/
theorem index2 : ∀ t : Fin cfg0.N, (cfg0.win 2).index t = ![0, 0] :=
  (by decide : ∀ t : Fin grid0.N, win0_2.index t = ![0, 0])
/-- The incoming residual's window is the point's 32 rows. -/
theorem index3 : ∀ t : Fin cfg0.N, (cfg0.win 3).index t = ![t.val, 0] :=
  (by decide : ∀ t : Fin grid0.N, win0_3.index t = ![t.val, 0])
/-- The gain's window is the whole row. -/
theorem index4 : ∀ t : Fin cfg0.N, (cfg0.win 4).index t = ![0, 0] :=
  (by decide : ∀ t : Fin grid0.N, win0_4.index t = ![0, 0])

/-- An offset of zero blocks changes nothing. -/
theorem zero_blocks (n k : ℕ) : 0 * n + k = k := by rw [Nat.zero_mul, Nat.zero_add]

/-- The shards' codes at a point. -/
theorem blk0 (c : Dev nD) (t : Fin cfg0.N) (p : Fin 4) (r : Fin 32) (k : Fin 12288) :
    iblk m c 0 t (ix3 p r k) = m ((c : Thread nD τ).loc main_arg0) (ix4 p (bRow (pt t)) (sRow (pt t) r) k) := by
  have ht : t.val < 8 := t.isLt
  have e : ((cfg0.win 0).blk t).view.emb (ix3 p r k) = (ix3 p ⟨t.val * 32 + r.val, by omega⟩ k : S4x256x12288.Idx) := by
    funext a
    refine Fin.ext (((cfg0.win 0).rect_emb_val t (ix3 p r k) a rfl).trans ?_)
    rw [index0 t]
    match a with
    | ⟨0, _⟩ => exact zero_blocks _ _
    | ⟨1, _⟩ => rfl
    | ⟨2, _⟩ => exact zero_blocks _ _
  show V m c main_v0 (((cfg0.win 0).blk t).view.emb (ix3 p r k)) = _
  rw [e]
  entry_read
  refine shapeCast_apply (s := S4x2x128x12288) (t := S4x256x12288) _ _ _ _ ?_
  rw [Shape.rowMajor_val_four, Shape.rowMajor_val_three]
  show ((p.val * 2 + t.val / 4) * 128 + (t.val % 4 * 32 + r.val)) * 12288 + k.val = (p.val * 256 + (t.val * 32 + r.val)) * 12288 + k.val
  omega

/-- The shards' scales at a point. -/
theorem blk1 (c : Dev nD) (t : Fin cfg0.N) (p : Fin 4) (b : Fin 2) (s : Fin 128) :
    iblk m c 1 t (ix3 p b s) = m ((c : Thread nD τ).loc main_arg1) (ix3 p b s) := by
  have e : ((cfg0.win 1).blk t).view.emb (ix3 p b s) = (ix3 p b s : S4x2x128.Idx) := by
    funext a
    refine Fin.ext (((cfg0.win 1).rect_emb_val t (ix3 p b s) a rfl).trans ?_)
    rw [index1 t]
    match a with
    | ⟨0, _⟩ => exact zero_blocks _ _
    | ⟨1, _⟩ => exact zero_blocks _ _
    | ⟨2, _⟩ => exact zero_blocks _ _
  show V m c main_arg1 (((cfg0.win 1).blk t).view.emb (ix3 p b s)) = _
  rw [e, V_main_arg1]

/-- The bias at a point. -/
theorem blk2 (c : Dev nD) (t : Fin cfg0.N) (k : Fin 12288) :
    iblk m c 2 t (ix2 0 k) = m ((c : Thread nD τ).loc main_arg2) (ix1 k) := by
  have e : ((cfg0.win 2).blk t).view.emb (ix2 0 k) = (ix2 0 k : S1x12288.Idx) := by
    funext a
    refine Fin.ext (((cfg0.win 2).rect_emb_val t (ix2 0 k) a rfl).trans ?_)
    rw [index2 t]
    match a with
    | ⟨0, _⟩ => exact zero_blocks _ _
    | ⟨1, _⟩ => exact zero_blocks _ _
  show V m c main_v2 (((cfg0.win 2).blk t).view.emb (ix2 0 k)) = _
  rw [e]
  entry_read
  refine shapeCast_apply (s := S12288) (t := S1x12288) _ _ _ _ ?_
  rw [Shape.rowMajor_val_one, Shape.rowMajor_val_two]
  exact (zero_blocks _ _).symm

/-- The incoming residual at a point. -/
theorem blk3 (c : Dev nD) (t : Fin cfg0.N) (r : Fin 32) (k : Fin 12288) :
    iblk m c 3 t (ix2 r k) = m ((c : Thread nD τ).loc main_arg3) (ix3 (bRow (pt t)) (sRow (pt t) r) k) := by
  have ht : t.val < 8 := t.isLt
  have e : ((cfg0.win 3).blk t).view.emb (ix2 r k) = (ix2 ⟨t.val * 32 + r.val, by omega⟩ k : S256x12288.Idx) := by
    funext a
    refine Fin.ext (((cfg0.win 3).rect_emb_val t (ix2 r k) a rfl).trans ?_)
    rw [index3 t]
    match a with
    | ⟨0, _⟩ => rfl
    | ⟨1, _⟩ => exact zero_blocks _ _
  show V m c main_v1 (((cfg0.win 3).blk t).view.emb (ix2 r k)) = _
  rw [e]
  entry_read
  refine shapeCast_apply (s := S2x128x12288) (t := S256x12288) _ _ _ _ ?_
  rw [Shape.rowMajor_val_three, Shape.rowMajor_val_two]
  show ((t.val / 4) * 128 + (t.val % 4 * 32 + r.val)) * 12288 + k.val = (t.val * 32 + r.val) * 12288 + k.val
  omega

/-- The gain at a point. -/
theorem blk4 (c : Dev nD) (t : Fin cfg0.N) (k : Fin 12288) :
    iblk m c 4 t (ix2 0 k) = m ((c : Thread nD τ).loc main_arg4) (ix1 k) := by
  have e : ((cfg0.win 4).blk t).view.emb (ix2 0 k) = (ix2 0 k : S1x12288.Idx) := by
    funext a
    refine Fin.ext (((cfg0.win 4).rect_emb_val t (ix2 0 k) a rfl).trans ?_)
    rw [index4 t]
    match a with
    | ⟨0, _⟩ => exact zero_blocks _ _
    | ⟨1, _⟩ => exact zero_blocks _ _
  show V m c main_v3 (((cfg0.win 4).blk t).view.emb (ix2 0 k)) = _
  rw [e]
  entry_read
  refine shapeCast_apply (s := S12288) (t := S1x12288) _ _ _ _ ?_
  rw [Shape.rowMajor_val_one, Shape.rowMajor_val_two]
  exact (zero_blocks _ _).symm

/-! ## The values of the whole arrays, from the arguments -/

/-- The residual at batch `b`, row `s`, column `k`. -/
def resA (a0 : S4x2x128x12288.Idx → EReal) (a1 : S4x2x128.Idx → EReal) (a2 : S12288.Idx → EReal) (a3 : S2x128x12288.Idx → EReal)
    (b : Fin 2) (s : Fin 128) (k : Fin 12288) : EReal :=
  (∑ p : Fin 4, a1 (ix3 p b s) * a0 (ix4 p b s k)) + a2 (ix1 k) + a3 (ix3 b s k)

/-- The residual of row `s` of batch `b`, from the memory. -/
def Rm (c : Dev nD) (b : Fin 2) (s : Fin 128) (k : Fin 12288) : EReal :=
  resA (m ((c : Thread nD τ).loc main_arg0)) (m ((c : Thread nD τ).loc main_arg1)) (m ((c : Thread nD τ).loc main_arg2)) (m ((c : Thread nD τ).loc main_arg3)) b s k

/-- The gain, from the memory. -/
def gm (c : Dev nD) (k : Fin 12288) : EReal := m ((c : Thread nD τ).loc main_arg4) (ix1 k)

/-- The scaled largest absolute value of a normalised row. -/
def tR (R g : Fin 12288 → EReal) : EReal := mxR R g * rsR R * Ideal.ofBits FTy.f32 0x3B124925#32

/-- The residual chunks at a point. -/
def nrAt (c : Dev nD) (t : Fin cfg0.N) : Fin 12 → FVec Ideal S32x1024 .bf16 :=
  nrOf (F := Ideal) (grid0.coords t) (iblk m c 0 t) (iblk m c 1 t) (iblk m c 2 t) (iblk m c 3 t)

/-- The residual chunk a point computes, at an index, from the arguments. -/
theorem nrAt_apply (c : Dev nD) (t : Fin cfg0.N) (q : Fin 12) (r : Fin 32) (l : Fin 1024) :
    nrAt m c t q (ix2 r l) = Rm m c (bRow (pt t)) (sRow (pt t) r) (col q l) := by
  unfold nrAt
  rw [nrOf_apply, coords_pt]
  unfold resid Rm resA scl
  rw [blk2, blk3]
  simp only [blk0, blk1]

/-- A row's largest gained value from the point's gain block is the one from the argument. -/
theorem sup_gain (c : Dev nD) (t : Fin cfg0.N) (R : Fin 12288 → EReal) : mxR R (fun k => iblk m c 4 t (ix2 0 k)) = mxR R (gm m c) :=
  congrArg (mxR R) (funext fun k => blk4 m c t k)

/-- The scale of a row at a point. -/
theorem scaleAt_apply (c : Dev nD) (t : Fin cfg0.N) (r : Fin 32) :
    scaleOf (F := Ideal) (nrAt m c t) (iblk m c 4 t) (ix2 r 0) = scaleK (tR (Rm m c (bRow (pt t)) (sRow (pt t) r)) (gm m c)) := by
  unfold scaleOf
  rw [pay89_apply, aOf_row (nrAt m c t) (iblk m c 4 t) (fun r k => Rm m c (bRow (pt t)) (sRow (pt t) r) k) (fun q r l => nrAt_apply m c t q r l), sup_gain]
  rfl

/-- The factor of a row at a point. -/
theorem fAt_apply (c : Dev nD) (t : Fin cfg0.N) (r : Fin 32) :
    fOf (F := Ideal) (nrAt m c t) (iblk m c 4 t) (ix2 r 0)
      = rsR (Rm m c (bRow (pt t)) (sRow (pt t) r)) * invK (tR (Rm m c (bRow (pt t)) (sRow (pt t) r)) (gm m c)) := by
  unfold fOf
  rw [pay90_apply, aOf_row (nrAt m c t) (iblk m c 4 t) (fun r k => Rm m c (bRow (pt t)) (sRow (pt t) r) k) (fun q r l => nrAt_apply m c t q r l), sup_gain,
    rsOf_row (nrAt m c t) (fun r k => Rm m c (bRow (pt t)) (sRow (pt t) r) k) (fun q r l => nrAt_apply m c t q r l)]
  rfl

/-- The block of residuals a point leaves. -/
def res5 (c : Dev nD) (t : Fin cfg0.N) : Vec Ideal S32x12288 .bf16 := View.canon (piecesOf (F := Ideal) (e := .bf16) (nrAt m c t))

/-- The block of codes a point leaves. -/
def res6 (c : Dev nD) (t : Fin cfg0.N) : Vec Ideal S32x12288 .fp8e4m3 :=
  View.canon (piecesOf (F := Ideal) (e := .fp8e4m3) (codesOf (fOf (nrAt m c t) (iblk m c 4 t)) (fun k => View.ld (res5 m c t) (colsX k)) (iblk m c 4 t)))

/-- The residual block a point leaves, at an index. -/
theorem res5_apply (c : Dev nD) (t : Fin cfg0.N) (r : Fin 32) (k : Fin 12288) :
    res5 m c t (ix2 r k) = Rm m c (bRow (pt t)) (sRow (pt t) r) k :=
  canon_pieces (e := .bf16) (nrAt m c t) (fun r k => Rm m c (bRow (pt t)) (sRow (pt t) r) k) (fun q r l => nrAt_apply m c t q r l) r k

/-- A code: the row's residual times its factor times the gain, clipped. -/
def codeK (R g : Fin 12288 → EReal) (k : Fin 12288) : EReal :=
  min (Ideal.ofBits FTy.f32 0x43E00000#32) (max (Ideal.ofBits FTy.f32 0xC3E00000#32) (R k * (rsR R * invK (tR R g)) * g k))

/-- The code block a point leaves, at an index. -/
theorem res6_apply (c : Dev nD) (t : Fin cfg0.N) (r : Fin 32) (k : Fin 12288) :
    res6 m c t (ix2 r k) = codeK (Rm m c (bRow (pt t)) (sRow (pt t) r)) (gm m c) k := by
  refine canon_pieces (e := .fp8e4m3) _ (fun r k => codeK (Rm m c (bRow (pt t)) (sRow (pt t) r)) (gm m c) k) (fun q r l => ?_) r k
  refine (codesOf_apply _ _ _ q r l).trans ?_
  rw [fAt_apply, ld_colsX, res5_apply, blk4]
  rfl

end Cert.KernelIdeal.Vals
end
-- ==== Proof.RefVals.lean ====
/- What the reference computes at the ideal values, at an index, from its five loaded blocks. -/
module

public import proofs.«01_k».proof.Proof.Inputs
public import proofs.«01_k».proof.Proof.Gen.ReferenceIdeal.Value

@[expose] public section

set_option maxRecDepth 16384

noncomputable section

namespace Cert.ReferenceIdeal.Vals
open Cert.ReferenceIdeal Cert.ReferenceIdeal.Gen Cert.ReferenceIdeal.Facts
open Idealize.ShloMosaic Idealize.ShloMosaic.TcCoe
open Cert.KernelIdeal.Vals (rsR eabs)

/-- The index a row reduction reads. -/
theorem lift_row (b : Fin 2) (s : Fin 128) (k : Fin 12288) :
    (reduces_S2x128x12288_S2x128 : S2x128x12288.Reduces [2] S2x128).lift (ix2 b s) k = ix3 b s k := by
  funext a
  match a with
  | ⟨0, _⟩ => rfl
  | ⟨1, _⟩ => rfl
  | ⟨2, _⟩ => rfl

/-- A column added to the rows of a table is read at its row. -/
theorem col_apply (v : FVec Ideal S2x128 .f32) (b : Fin 2) (s : Fin 128) :
    shapeCast S2x128x1 v shapeCasts_S2x128_S2x128x1 (ix3 b s 0) = v (ix2 b s) := by
  refine shapeCast_apply (s := S2x128) (t := S2x128x1) _ _ _ _ ?_
  rw [Shape.rowMajor_val_three, Shape.rowMajor_val_two]
  show b.val * 128 + s.val = (b.val * 128 + s.val) * 1 + 0
  omega

/-- A row's maximum of absolute values. -/
theorem rowMax_apply (v : FVec Ideal S2x128x12288 .f32) (b : Fin 2) (s : Fin 128) :
    (multiReduction (F := Ideal) .maximumf [2] S2x128 (absf v) 0xFF800000#32 reduces_S2x128x12288_S2x128 (.inl rfl) rfl) (ix2 b s)
      = (Finset.univ.sup fun k => eabs (v (ix3 b s k))) := by
  refine (Ideal.multiReduction_maximumf_single (φ := .f32) (a := (2 : Fin S2x128x12288.rank)) (absf v) _ _ _ _ _).trans ?_
  refine (congrArg (fun z : EReal => Finset.fold max z _ _) Cert.KernelIdeal.Vals.ofBits_neg_inf).trans ?_
  refine Finset.sup_congr rfl fun k _ => ?_
  exact (congrArg (absf v) (lift_row b s k)).trans rfl

/-- A row's sum. -/
theorem rowSum_apply (v : FVec Ideal S2x128x12288 .f32) (b : Fin 2) (s : Fin 128) :
    (multiReduction (F := Ideal) .add [2] S2x128 v 0x00000000#32 reduces_S2x128x12288_S2x128 (.inl rfl) rfl) (ix2 b s)
      = ∑ k : Fin 12288, v (ix3 b s k) := by
  refine (Ideal.multiReduction_add_single (φ := .f32) (a := (2 : Fin S2x128x12288.rank)) v _ _ _ _ _).trans ?_
  exact Finset.sum_congr rfl fun k _ => congrArg v (lift_row b s k)

variable (x0 : Vec Ideal S4x2x128x12288 .fp8e4m3) (x1 : Vec Ideal S4x2x128 .f32) (x2 : Vec Ideal S1x1x12288 .f32)
  (x3 : Vec Ideal S2x128x12288 .bf16) (x4 : Vec Ideal S1x1x12288 .f32)

/-- The residual at a row and column. -/
def resB (b : Fin 2) (s : Fin 128) (k : Fin 12288) : EReal :=
  (∑ p : Fin 4, x0 (ix4 p b s k) * x1 (ix3 p b s)) + x2 (ix3 0 0 k) + x3 (ix3 b s k)

/-- The reference's residual. -/
theorem pay5_apply (b : Fin 2) (s : Fin 128) (k : Fin 12288) :
    k0_pay5 (F := Ideal) x0 x1 x2 x3 (ix3 b s k) = resB x0 x1 x2 x3 b s k := by
  unfold k0_pay5 resB
  pointwise

/-- A gain row spread over the rows of an array is read at its column. -/
theorem row_apply (g : Vec Ideal S1x1x12288 .f32) (b : Fin 2) (s : Fin 128) (k : Fin 12288) :
    broadcastTo S2x128x12288 (shapeCast S1x1x12288 g shapeCasts_S1x1x12288_S1x1x12288) broadcasts_S1x1x12288_S2x128x12288 (ix3 b s k) = g (ix3 0 0 k) := by
  pointwise

/-- A column spread over the columns of an array is read at its row. -/
theorem spread_apply (v : FVec Ideal S2x128x1 .f32) (b : Fin 2) (s : Fin 128) (k : Fin 12288) :
    broadcastTo S2x128x12288 v broadcasts_S2x128x1_S2x128x12288 (ix3 b s k) = v (ix3 b s 0) := by
  pointwise

/-- The reciprocal root mean square, from a row's sum of squares. -/
theorem rsqrt_apply (u : FVec Ideal S2x128x1 .f32) (b : Fin 2) (s : Fin 128) :
    rsqrt (addf (divf u (broadcast S2x128x1 (Scalar.ofBits (F := Ideal) .f32 0x46400000#32))) (broadcast S2x128x1 (Scalar.ofBits (F := Ideal) .f32 0x358637BD#32))) (ix3 b s 0)
      = Ideal.rsqrt (Ideal.div (u (ix3 b s 0)) (Ideal.ofBits FTy.f32 0x46400000#32) + Ideal.ofBits FTy.f32 0x358637BD#32) := by
  pointwise

/-- A column times a constant. -/
theorem scaled_apply (A : FVec Ideal S2x128x1 .f32) (b : Fin 2) (s : Fin 128) :
    mulf A (broadcast S2x128x1 (Scalar.ofBits (F := Ideal) .f32 0x3B124925#32)) (ix3 b s 0) = A (ix3 b s 0) * Ideal.ofBits FTy.f32 0x3B124925#32 := by
  pointwise

/-- A product of three arrays at an index. -/
theorem mul3_apply (A B C : FVec Ideal S2x128x12288 .f32) (i : S2x128x12288.Idx) : mulf (mulf A B) C i = A i * B i * C i := rfl

/-- The normalised row as a term of vector operations over the residual. -/
theorem pay6_eq : k0_pay6 (F := Ideal) x0 x1 x2 x3 x4
    = mulf (mulf (extf .f32 (k0_pay5 (F := Ideal) x0 x1 x2 x3) bitsLt_bf16_f32)
        (broadcastTo S2x128x12288 (rsqrt (addf (divf (shapeCast S2x128x1 (multiReduction (F := Ideal) .add [2] S2x128
            (mulf (extf .f32 (k0_pay5 (F := Ideal) x0 x1 x2 x3) bitsLt_bf16_f32) (extf .f32 (k0_pay5 (F := Ideal) x0 x1 x2 x3) bitsLt_bf16_f32))
            0x00000000#32 reduces_S2x128x12288_S2x128 (.inl rfl) rfl) shapeCasts_S2x128_S2x128x1)
          (broadcast S2x128x1 (Scalar.ofBits (F := Ideal) .f32 0x46400000#32))) (broadcast S2x128x1 (Scalar.ofBits (F := Ideal) .f32 0x358637BD#32))))
          broadcasts_S2x128x1_S2x128x12288))
      (broadcastTo S2x128x12288 (shapeCast S1x1x12288 x4 shapeCasts_S1x1x12288_S1x1x12288) broadcasts_S1x1x12288_S2x128x12288) := by
  rw [k0_pay6]

/-- The reference's normalised row times the gain. -/
theorem pay6_apply (b : Fin 2) (s : Fin 128) (k : Fin 12288) :
    k0_pay6 (F := Ideal) x0 x1 x2 x3 x4 (ix3 b s k)
      = resB x0 x1 x2 x3 b s k * rsR (resB x0 x1 x2 x3 b s) * x4 (ix3 0 0 k) := by
  refine (congrFun (pay6_eq x0 x1 x2 x3 x4) _).trans ?_
  have h := pay5_apply x0 x1 x2 x3
  generalize k0_pay5 (F := Ideal) x0 x1 x2 x3 = v at h ⊢
  refine (mul3_apply _ _ _ _).trans ?_
  refine congrArg₂ (fun p q : EReal => p * q) (congrArg₂ (fun p q : EReal => p * q) (h b s k) ?_) (row_apply x4 b s k)
  refine (spread_apply _ b s k).trans ((rsqrt_apply _ b s).trans ?_)
  unfold rsR
  refine congrArg (fun z : EReal => Ideal.rsqrt (Ideal.div z (Ideal.ofBits FTy.f32 0x46400000#32) + Ideal.ofBits FTy.f32 0x358637BD#32)) ?_
  refine (col_apply _ b s).trans ((rowSum_apply _ b s).trans ?_)
  exact Finset.sum_congr rfl fun k _ => congrArg₂ (fun p q : EReal => p * q) (h b s k) (h b s k)

/-- The scaled row maximum as a term of vector operations over the normalised row. -/
theorem pay7_eq : k0_pay7 (F := Ideal) x0 x1 x2 x3 x4
    = mulf (shapeCast S2x128x1 (multiReduction (F := Ideal) .maximumf [2] S2x128 (absf (k0_pay6 (F := Ideal) x0 x1 x2 x3 x4)) 0xFF800000#32
        reduces_S2x128x12288_S2x128 (.inl rfl) rfl) shapeCasts_S2x128_S2x128x1) (broadcast S2x128x1 (Scalar.ofBits (F := Ideal) .f32 0x3B124925#32)) := by
  rw [k0_pay7]

/-- The reference's scaled largest absolute value of a row. -/
theorem pay7_apply (b : Fin 2) (s : Fin 128) :
    k0_pay7 (F := Ideal) x0 x1 x2 x3 x4 (ix3 b s 0)
      = (Finset.univ.sup fun k => eabs (resB x0 x1 x2 x3 b s k * rsR (resB x0 x1 x2 x3 b s) * x4 (ix3 0 0 k))) * Ideal.ofBits FTy.f32 0x3B124925#32 := by
  refine (congrFun (pay7_eq x0 x1 x2 x3 x4) _).trans ?_
  have h := pay6_apply x0 x1 x2 x3 x4
  generalize k0_pay6 (F := Ideal) x0 x1 x2 x3 x4 = v at h ⊢
  refine (scaled_apply _ b s).trans (congrArg (fun z : EReal => z * Ideal.ofBits FTy.f32 0x3B124925#32) ?_)
  refine (col_apply _ b s).trans ((rowMax_apply v b s).trans ?_)
  exact Finset.sup_congr rfl fun k _ => congrArg eabs (h b s k)

/-- A comparison with the least normal number, at an index. -/
theorem below_apply (T : FVec Ideal S2x128x1 .f32) (b : Fin 2) (s : Fin 128) :
    cmpf (F := Ideal) .olt T (broadcast S2x128x1 (Scalar.ofBits (F := Ideal) .f32 0x00800000#32)) (ix3 b s 0)
      = BitVec.ofBool (decide (T (ix3 b s 0) < Ideal.ofBits FTy.f32 0x00800000#32)) := by
  pointwise

/-- The comparison as a term of vector operations. -/
theorem pay8_eq : k0_pay8 (F := Ideal) x0 x1 x2 x3 x4
    = cmpf (F := Ideal) .olt (k0_pay7 (F := Ideal) x0 x1 x2 x3 x4) (broadcast S2x128x1 (Scalar.ofBits (F := Ideal) .f32 0x00800000#32)) := by
  rw [k0_pay8]

/-- Whether that is below the least normal number. -/
theorem pay8_apply (b : Fin 2) (s : Fin 128) :
    k0_pay8 (F := Ideal) x0 x1 x2 x3 x4 (ix3 b s 0)
      = BitVec.ofBool (decide (k0_pay7 (F := Ideal) x0 x1 x2 x3 x4 (ix3 b s 0) < Ideal.ofBits FTy.f32 0x00800000#32)) :=
  (congrFun (pay8_eq x0 x1 x2 x3 x4) _).trans (below_apply _ b s)

/-- The reference's exponent of a scaled largest absolute value. -/
def expR (t : EReal) : EReal :=
  if t < Ideal.ofBits FTy.f32 0x00800000#32 then 0
  else Ideal.liftRound (Int.floor) (Ideal.div (Ideal.log t) ((Real.log 2 : ℝ) : EReal)) + 1

/-- The reference's exponent, at a row. -/
theorem pay1_apply (t : FVec Ideal S2x128x1 .f32) (d : IVec S2x128x1 1) (b : Fin 2) (s : Fin 128)
  (hd : d (ix3 b s 0) = BitVec.ofBool (decide (t (ix3 b s 0) < Ideal.ofBits FTy.f32 0x00800000#32))) :
    k0_pay1 (F := Ideal) t d (ix3 b s 0) = expR (t (ix3 b s 0)) := by
  unfold k0_pay1
  pointwise
  rw [hd]
  unfold expR
  by_cases hlt : t (ix3 b s 0) < Ideal.ofBits FTy.f32 0x00800000#32
  · rw [if_pos hlt, decide_eq_true hlt]
    rfl
  · rw [if_neg hlt, decide_eq_false hlt]
    rfl

/-- The residual array laid out in rows. -/
theorem pay2_apply (v : FVec Ideal S2x128x12288 .bf16) (b : Fin 2) (s : Fin 128) (k : Fin 12288) (h : 128 * b.val + s.val < 256):
    k0_pay2 (F := Ideal) v (ix2 ⟨128 * b.val + s.val, h⟩ k) = v (ix3 b s k) := by
  unfold k0_pay2
  refine shapeCast_apply (s := S2x128x12288) (t := S256x12288) _ _ _ _ ?_
  rw [Shape.rowMajor_val_three, Shape.rowMajor_val_two]
  show (b.val * 128 + s.val) * 12288 + k.val = (128 * b.val + s.val) * 12288 + k.val
  omega

/-- The scale of a row. -/
theorem pay4_apply (t : FVec Ideal S2x128x1 .f32) (d : IVec S2x128x1 1) (b : Fin 2) (s : Fin 128) :
    k0_pay4 (F := Ideal) t d (ix2 b s) = Ideal.exp2 (k0_pay1 (F := Ideal) t d (ix3 b s 0)) := by
  unfold k0_pay4
  generalize k0_pay1 (F := Ideal) t d = e
  pointwise
  rfl

/-- A code: the normalised row times the inverse scale, clipped. -/
theorem pay3_apply (y : FVec Ideal S2x128x12288 .f32) (t : FVec Ideal S2x128x1 .f32) (d : IVec S2x128x1 1) (b : Fin 2) (s : Fin 128) (k : Fin 12288) (h : 128 * b.val + s.val < 256):
    k0_pay3 (F := Ideal) y t d (ix2 ⟨128 * b.val + s.val, h⟩ k)
     = min (Ideal.ofBits FTy.f32 0x43E00000#32) (max (Ideal.ofBits FTy.f32 0xC3E00000#32) (y (ix3 b s k) * Ideal.exp2 (0 - k0_pay1 (F := Ideal) t d (ix3 b s 0)))) := by
  unfold k0_pay3
  generalize k0_pay1 (F := Ideal) t d = e
  refine (shapeCast_apply (s := S2x128x12288) (t := S256x12288) _ _ _ (ix3 b s k) ?_).trans ?_
  · rw [Shape.rowMajor_val_three, Shape.rowMajor_val_two]
    show (b.val * 128 + s.val) * 12288 + k.val = (128 * b.val + s.val) * 12288 + k.val
    omega
  pointwise
  rfl

end Cert.ReferenceIdeal.Vals
end
-- ==== Proof.Launch.lean ====
/- The kernel's launch at the ideal values: windows 5 and 6 hold at each point the residual and code blocks, window 7,
   whose rows are written four points at a time, is held to what is known of it: every row already passed has its scale. -/
module

public import proofs.«01_k».proof.Proof.Inputs
public import Idealize.ShloMosaic.Lib.Pipeline.DatRel
public import Idealize.ShloMosaic.Lib.Pipeline.ArrRel
public import proofs.«01_k».proof.Proof.Gen.KernelIdeal.Launch
public import proofs.«01_k».proof.Proof.Gen.KernelIdeal.Points

@[expose] public section

set_option maxRecDepth 16384

noncomputable section

namespace Cert.KernelIdeal.Vals
open Cert.KernelIdeal.Gen Cert.KernelIdeal.Facts Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-- The scale of row `s` of batch `b`. -/
def svA (c : Dev nD) (b : Fin 2) (s : Fin 128) : EReal := scaleK (tR (Rm m c b s) (gm m c))

/-- What is known of the scales' array after point `t`: every row the points up to `t` hold has its scale. -/
def RelY (c : Dev nD) (t : Fin cfg0.N) (X : Vec Ideal S2x128 .f32) : Prop :=
  ∀ (b : Fin 2) (s : Fin 128), 128 * b.val + s.val < 32 * (t.val + 1) → X (ix2 b s) = svA m c b s

/-- A row of lanes laid over the two-row array, read at an index. -/
theorem overlay_row (off : Fin 2 → ℕ) (inb : ∀ a, off a + S1x128.size a ≤ S2x128.size a) (q : Fin 2) (hoff : off = ![q.val, 0])
    (Y : Vec Ideal S2x128 .f32) (w : Vec Ideal S1x128 .f32) (b : Fin 2) (s : Fin 128) :
    (Rect.unit (s := S2x128) off S1x128.size inb).overlay Y w (ix2 b s) = if b = q then w (ix2 0 s) else Y (ix2 b s) := by
  subst hoff
  have hemb : (Rect.unit (s := S2x128) ![q.val, 0] S1x128.size inb).emb (ix2 0 s) = (ix2 q s : S2x128.Idx) := by
    funext a
    refine Fin.ext ?_
    match a with
    | ⟨0, _⟩ => rfl
    | ⟨1, _⟩ => show 0 + 1 * s.val = s.val; rw [Nat.one_mul, Nat.zero_add]
  by_cases hb : b = q
  · subst hb
    rw [if_pos rfl, ← hemb]
    exact Rect.overlay_emb _ _ _ _
  · rw [if_neg hb]
    refine Rect.overlay_of_not_mem _ _ _ fun hm => hb ?_
    obtain ⟨x, hx⟩ := (Rect.unit (s := S2x128) ![q.val, 0] S1x128.size inb).exists_idx_of_mem hm
    have hx0 : (x 0).val < 1 := (x 0).isLt
    have h0 : q.val + 1 * (x 0).val = b.val := congrArg (fun i : S2x128.Idx => (i 0).val) hx
    exact Fin.ext (by omega)

/-- A row of lanes loaded from the two-row array. -/
theorem ld_row (off : Fin 2 → ℕ) (inb : ∀ a, off a + S1x128.size a ≤ S2x128.size a) (q : Fin 2) (hoff : off = ![q.val, 0])
    (Y : Vec Ideal S2x128 .f32) (s : Fin 128) :
    View.ld Y (Rect.unit (s := S2x128) off S1x128.size inb) (ix2 0 s) = Y (ix2 q s) := by
  subst hoff
  refine View.ld_unit_apply_of Y _ _ _ _ _ fun a => ?_
  match a with
  | ⟨0, _⟩ => rfl
  | ⟨1, _⟩ => exact (Nat.zero_add _).symm

/-- One point's write keeps the rows passed and adds its own. -/
theorem relY_step (c : Dev nD) (t : Fin cfg0.N) (Y : Vec Ideal S2x128 .f32)
    (hY : ∀ (b : Fin 2) (s : Fin 128), 128 * b.val + s.val < 32 * t.val → Y (ix2 b s) = svA m c b s) :
    RelY m c t ((rowY (grid0.coords t)).overlay Y
      (ysOf (F := Ideal) (grid0.coords t) (scaleOf (nrAt m c t) (iblk m c 4 t)) (View.ld Y (rowY (grid0.coords t))))) := by
  intro b s h
  have ht : t.val < 8 := t.isLt
  have hoff : k0_off5 (grid0.coords t) = ![(bRow (pt t)).val, 0] := by rw [k0_off5_eq, coords_val]; rfl
  have hld : ∀ l : Fin 128, View.ld Y (rowY (grid0.coords t)) (ix2 0 l) = Y (ix2 (bRow (pt t)) l) := fun l => ld_row _ _ _ hoff Y l
  have hsc := fun r => scaleAt_apply m c t r
  refine (overlay_row _ (k0_off5_inb (grid0.coords t)) _ hoff Y _ b s).trans ?_
  generalize View.ld Y (rowY (grid0.coords t)) = old at hld ⊢
  generalize scaleOf (F := Ideal) (nrAt m c t) (iblk m c 4 t) = sc at hsc ⊢
  by_cases hb : b = bRow (pt t)
  · subst hb
    rw [if_pos rfl]
    refine (ysOf_apply (grid0.coords t) (pt t) (coords_pt t) _ _ s).trans ?_
    have hs : 128 * (t.val / 4) + s.val < 32 * (t.val + 1) := h
    by_cases h1 : s.val < (pt t).val % 4 * 32
    · rw [if_pos h1]
      refine (hld s).trans (hY _ _ ?_)
      have h1' : s.val < t.val % 4 * 32 := h1
      show 128 * (t.val / 4) + s.val < 32 * t.val
      omega
    · have h1' : ¬ s.val < t.val % 4 * 32 := h1
      have h2 : s.val < (pt t).val % 4 * 32 + 32 := by show s.val < t.val % 4 * 32 + 32; omega
      rw [if_neg h1, dif_pos h2, hsc]
      have e : sRow (pt t) ⟨s.val - (pt t).val % 4 * 32, by omega⟩ = s := Fin.ext (by
        show t.val % 4 * 32 + (s.val - t.val % 4 * 32) = s.val
        omega)
      rw [e]
      rfl
  · rw [if_neg hb]
    refine hY b s ?_
    have hb' : ¬ b.val = t.val / 4 := fun hh => hb (Fin.ext hh)
    omega

/-! ## The pipeline's proof data -/

/-- The window that is only held to a relation. -/
def marked : Fin 8 → Bool := fun w => w.val == 7

/-- The proof data: the input windows at their blocks, windows 5 and 6 at what the body leaves, window 7 not named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => res5 m c t
    | ⟨6, _⟩ => res6 m c t
    | ⟨7, h⟩ => Pipeline.Dat.unnamed (cfg := cfg0) ⟨7, h⟩ t
  Φ _ := Pipeline.ΦA spec0 c
  q _ := fullShare
  owed _ := 0

/-- The relation of each window: window 7's is `RelY`. -/
def relOf (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun _ => True
  | ⟨7, _⟩ => fun X => RelY m c t X

/-- The relational proof data of a core. -/
def rdat (c : Dev nD) := (dats m 0 c).toRRel marked (relOf m c)

/-- A window's array at the region's entry is what the entry memory holds. -/
theorem A_eq (c : Dev nD) (w : Fin cfg0.W) : (dats m 0 c).A w = V m c (Pipeline.arrRef spec0 w) := by
  dsimp only [dats]

/-- What a point leaves in window 0's buffer. -/
theorem after0_0 (c : Dev nD) (t : Fin cfg0.N) : (dats m 0 c).after 0 t = iblk m c 0 t := by dsimp only [dats]
/-- What a point leaves in window 1's buffer. -/
theorem after0_1 (c : Dev nD) (t : Fin cfg0.N) : (dats m 0 c).after 1 t = iblk m c 1 t := by dsimp only [dats]
/-- What a point leaves in window 2's buffer. -/
theorem after0_2 (c : Dev nD) (t : Fin cfg0.N) : (dats m 0 c).after 2 t = iblk m c 2 t := by dsimp only [dats]
/-- What a point leaves in window 3's buffer. -/
theorem after0_3 (c : Dev nD) (t : Fin cfg0.N) : (dats m 0 c).after 3 t = iblk m c 3 t := by dsimp only [dats]
/-- What a point leaves in window 4's buffer. -/
theorem after0_4 (c : Dev nD) (t : Fin cfg0.N) : (dats m 0 c).after 4 t = iblk m c 4 t := by dsimp only [dats]
/-- What a point leaves in window 5's buffer. -/
theorem after0_5 (c : Dev nD) (t : Fin cfg0.N) : (dats m 0 c).after 5 t = res5 m c t := by dsimp only [dats]
/-- What a point leaves in window 6's buffer. -/
theorem after0_6 (c : Dev nD) (t : Fin cfg0.N) : (dats m 0 c).after 6 t = res6 m c t := by dsimp only [dats]

/-- What a point finds in input window 0's buffer: its block of the array. -/
theorem before0_0 (c : Dev nD) (t : Fin cfg0.N) (d) : (dats m 0 c).before 0 t d = iblk m c 0 t :=
  before0_0_of m (dats m 0 c) (A_eq m c 0) (after0_0 m c) t d
/-- What a point finds in input window 1's buffer: its block of the array. -/
theorem before0_1 (c : Dev nD) (t : Fin cfg0.N) (d) : (dats m 0 c).before 1 t d = iblk m c 1 t :=
  before0_1_of m (dats m 0 c) (A_eq m c 1) (after0_1 m c) t d
/-- What a point finds in input window 2's buffer: its block of the array. -/
theorem before0_2 (c : Dev nD) (t : Fin cfg0.N) (d) : (dats m 0 c).before 2 t d = iblk m c 2 t :=
  before0_2_of m (dats m 0 c) (A_eq m c 2) (after0_2 m c) t d
/-- What a point finds in input window 3's buffer: its block of the array. -/
theorem before0_3 (c : Dev nD) (t : Fin cfg0.N) (d) : (dats m 0 c).before 3 t d = iblk m c 3 t :=
  before0_3_of m (dats m 0 c) (A_eq m c 3) (after0_3 m c) t d
/-- What a point finds in input window 4's buffer: its block of the array. -/
theorem before0_4 (c : Dev nD) (t : Fin cfg0.N) (d) : (dats m 0 c).before 4 t d = iblk m c 4 t :=
  before0_4_of m (dats m 0 c) (A_eq m c 4) (after0_4 m c) t d

/-- What a point finds in window 7 has every earlier row's scale. -/
theorem finds7 (c : Dev nD) (t : Fin cfg0.N) (Y : Vec Ideal S2x128 .f32) (h : ((dats m 0 c).toRRel marked (relOf m c)).Finds 7 t Y) :
    ∀ (b : Fin 2) (s : Fin 128), 128 * b.val + s.val < 32 * t.val → Y (ix2 b s) = svA m c b s := by
  intro b s hs
  have ht : t.val < 8 := t.isLt
  by_cases h0 : t.val = 0
  · omega
  · have hf : (cfg0.win 7).fetch t = false := rfl
    rcases (Pipeline.RDat.finds_of_pos (rd := (dats m 0 c).toRRel marked (relOf m c)) hf h0 Y).mp h with hfl | hl
    · have := (flush0_7 _).mp hfl
      have h2 : (t.val - 1) % 8 = 7 := this
      omega
    · have hr : RelY m c ⟨t.val - 1, Nat.lt_of_le_of_lt (Nat.sub_le _ _) t.isLt⟩ Y := Dat.toRRel_leaves (dat := dats m 0 c) (fgt := marked) (Rl := relOf m c) (w := 7) rfl hl
      refine hr b s ?_
      show 128 * b.val + s.val < 32 * (t.val - 1 + 1)
      omega

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel marked (relOf m c)).Finds 7 t Y⌝ ∗ owns (c : Thread nD τ) (st0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜relOf m c 7 t X⌝ ∗ owns (c : Thread nD τ) (st0_7 t) fullShare X))

set_option maxHeartbeats 800000 in
/-- The body at any point: its triple at the input blocks and at what window 7 was found with. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, %hY, H7⟩⟩
  iapply ((kernelRun (F := Ideal) c (grid0.coords t) _ _ _ _ _ _ _ _ _ _ _ _ _ _ _ _ (iblk m c 0 t) (iblk m c 1 t) (iblk m c 2 t) (iblk m c 3 t) (iblk m c 4 t) Y) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _
  isplitr; swap; · iexact H7
  ipureintro
  exact relY_step m c t Y (finds7 m c t Y hY)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligationRel (dats m 0 c) (defs₀ (F := Ideal)) Variants.none () Set.univ marked (relOf m c) := fun t => by
  rw [bigSep_W0, bigSep_W0, defs₀_row]
  exact triple_restated (sound_body m c t) rfl .rfl fun _ => .rfl

/-! ## The run -/

set_option backward.isDefEq.respectTransparency.types false in
/-- The launch: the frame post over the relational data, and every counter at zero. -/
theorem run_main_quiescent : θ_run defs (onTc (τ := τ) (main (F := Ideal))) (s₀ m ρ)
    (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

end Cert.KernelIdeal.Vals
end
-- ==== Proof.Finals.lean ====
/- What the kernel leaves in its three result arrays at the ideal values, from the arguments; and the kernel's frame. -/
module

public import proofs.«01_k».proof.Proof.Launch

@[expose] public section

set_option maxRecDepth 16384

noncomputable section

namespace Cert.KernelIdeal.Vals
open Cert.KernelIdeal.Gen Cert.KernelIdeal.Facts Cert.KernelIdeal.Body
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The batch and the row within it of a row of the flattened arrays. -/
def bOf (n : Fin 256) : Fin 2 := ⟨n.val / 128, by omega⟩
/-- The row within the batch. -/
def sOf (n : Fin 256) : Fin 128 := ⟨n.val % 128, by omega⟩

/-- The residual array. -/
def G5 (c : Dev nD) : S256x12288.Idx → EReal := fun i => Rm m c (bOf (i 0)) (sOf (i 0)) (i 1)
/-- The code array. -/
def G6 (c : Dev nD) : S256x12288.Idx → EReal := fun i => codeK (Rm m c (bOf (i 0)) (sOf (i 0))) (gm m c) (i 1)
/-- The array of scales. -/
def G7 (c : Dev nD) : S2x128.Idx → EReal := fun i => svA m c (i 0) (i 1)

/-- The output windows of 32 rows move with the grid. -/
theorem index5 : ∀ t : Fin cfg0.N, (cfg0.win 5).index t = ![t.val, 0] :=
  (by decide : ∀ t : Fin grid0.N, win0_5.index t = ![t.val, 0])
/-- The code window likewise. -/
theorem index6 : ∀ t : Fin cfg0.N, (cfg0.win 6).index t = ![t.val, 0] :=
  (by decide : ∀ t : Fin grid0.N, win0_6.index t = ![t.val, 0])

/-- Row `r` of a point's block in the residual array. -/
theorem emb5 (t : Fin cfg0.N) (r : Fin 32) (k : Fin 12288) (h : t.val * 32 + r.val < 256) :
    ((cfg0.win 5).blk t).view.emb (ix2 r k) = (ix2 ⟨t.val * 32 + r.val, h⟩ k : S256x12288.Idx) := by
  funext a
  refine Fin.ext (((cfg0.win 5).rect_emb_val t (ix2 r k) a rfl).trans ?_)
  rw [index5 t]
  match a with
  | ⟨0, _⟩ => rfl
  | ⟨1, _⟩ => exact zero_blocks _ _

/-- Row `r` of a point's block in the code array. -/
theorem emb6 (t : Fin cfg0.N) (r : Fin 32) (k : Fin 12288) (h : t.val * 32 + r.val < 256) :
    ((cfg0.win 6).blk t).view.emb (ix2 r k) = (ix2 ⟨t.val * 32 + r.val, h⟩ k : S256x12288.Idx) := by
  funext a
  refine Fin.ext (((cfg0.win 6).rect_emb_val t (ix2 r k) a rfl).trans ?_)
  rw [index6 t]
  match a with
  | ⟨0, _⟩ => rfl
  | ⟨1, _⟩ => exact zero_blocks _ _

/-- The batch of a row of a point's block. -/
theorem bOf_pt (t : Fin cfg0.N) (r : Fin 32) (h : t.val * 32 + r.val < 256) : bOf ⟨t.val * 32 + r.val, h⟩ = bRow (pt t) :=
  Fin.ext (by show (t.val * 32 + r.val) / 128 = t.val / 4; omega)
/-- The row within the batch of a row of a point's block. -/
theorem sOf_pt (t : Fin cfg0.N) (r : Fin 32) (h : t.val * 32 + r.val < 256) : sOf ⟨t.val * 32 + r.val, h⟩ = sRow (pt t) r :=
  Fin.ext (by show (t.val * 32 + r.val) % 128 = t.val % 4 * 32 + r.val; omega)

/-- Every index of the flattened arrays is in a point's block. -/
theorem exists_row (i : S256x12288.Idx) : ∃ (t : Fin cfg0.N) (r : Fin 32) (k : Fin 12288) (h : t.val * 32 + r.val < 256), (ix2 ⟨t.val * 32 + r.val, h⟩ k : S256x12288.Idx) = i := by
  have h0 : (i 0).val < 256 := (i 0).isLt
  refine ⟨⟨(i 0).val / 32, by show (i 0).val / 32 < 8; omega⟩, ⟨(i 0).val % 32, by omega⟩, i 1, by show (i 0).val / 32 * 32 + (i 0).val % 32 < 256; omega, ?_⟩
  funext a
  match a with
  | ⟨0, _⟩ => exact Fin.ext (by show (i 0).val / 32 * 32 + (i 0).val % 32 = (i 0).val; omega)
  | ⟨1, _⟩ => rfl

/-- An index of a block of 32 rows is a pair. -/
theorem exists_pair (y : S32x12288.Idx) : ∃ (r : Fin 32) (k : Fin 12288), (ix2 r k : S32x12288.Idx) = y := by
  refine ⟨y 0, y 1, ?_⟩
  funext a
  match a with
  | ⟨0, _⟩ => rfl
  | ⟨1, _⟩ => rfl

/-- A whole block written back is itself. -/
theorem cut5 (t : Fin cfg0.N) (X : Vec Ideal S32x12288 .bf16) (y : S32x12288.Idx) : (cfg0.win 5).cut (grid0.coords t) X y = X y := rfl
/-- A block read from an array is the array under it. -/
theorem read5 (t : Fin cfg0.N) (G : S256x12288.Idx → EReal) (y : S32x12288.Idx) :
    ((cfg0.win 5).blk t).view.read (Elt Ideal) G y = G (((cfg0.win 5).blk t).view.emb y) := rfl
/-- What point `t` writes back. -/
theorem flushed5 (c : Dev nD) (t : Fin cfg0.N) : (dats m 0 c).flushed 5 t = (cfg0.win 5).cut (grid0.coords t) (res5 m c t) := by
  show (cfg0.win 5).cut (grid0.coords t) ((dats m 0 c).after 5 t) = _
  rw [after0_5]

/-- The array holds its function of the arguments after the run. -/
theorem arr5 (c : Dev nD) : (dats m 0 c).arrAt 5 cfg0.N = G5 m c := by
  refine (dats m 0 c).arrAt_eq_of_cover 5 (G5 m c) (fun t _ => ?_) (fun i => ?_)
  · have ht : t.val < 8 := t.isLt
    refine (flushed5 m c t).trans (funext fun (y : S32x12288.Idx) => (cut5 t _ y).trans (Eq.trans ?_ (read5 t _ y).symm))
    obtain ⟨r, k, rfl⟩ := exists_pair y
    have h : t.val * 32 + r.val < 256 := by omega
    refine (res5_apply m c t r k).trans (Eq.trans ?_ (congrArg (G5 m c) (emb5 t r k h)).symm)
    rw [← bOf_pt t r h, ← sOf_pt t r h]
    rfl
  · obtain ⟨t, r, k, h, hi⟩ := exists_row i
    exact ⟨t, flush0_5 t, ((emb5 t r k h).trans hi) ▸ View.emb_mem_set _ _⟩

/-- A whole block written back is itself. -/
theorem cut6 (t : Fin cfg0.N) (X : Vec Ideal S32x12288 .fp8e4m3) (y : S32x12288.Idx) : (cfg0.win 6).cut (grid0.coords t) X y = X y := rfl
/-- A block read from an array is the array under it. -/
theorem read6 (t : Fin cfg0.N) (G : S256x12288.Idx → EReal) (y : S32x12288.Idx) :
    ((cfg0.win 6).blk t).view.read (Elt Ideal) G y = G (((cfg0.win 6).blk t).view.emb y) := rfl
/-- What point `t` writes back. -/
theorem flushed6 (c : Dev nD) (t : Fin cfg0.N) : (dats m 0 c).flushed 6 t = (cfg0.win 6).cut (grid0.coords t) (res6 m c t) := by
  show (cfg0.win 6).cut (grid0.coords t) ((dats m 0 c).after 6 t) = _
  rw [after0_6]

/-- The array holds its function of the arguments after the run. -/
theorem arr6 (c : Dev nD) : (dats m 0 c).arrAt 6 cfg0.N = G6 m c := by
  refine (dats m 0 c).arrAt_eq_of_cover 6 (G6 m c) (fun t _ => ?_) (fun i => ?_)
  · have ht : t.val < 8 := t.isLt
    refine (flushed6 m c t).trans (funext fun (y : S32x12288.Idx) => (cut6 t _ y).trans (Eq.trans ?_ (read6 t _ y).symm))
    obtain ⟨r, k, rfl⟩ := exists_pair y
    have h : t.val * 32 + r.val < 256 := by omega
    refine (res6_apply m c t r k).trans (Eq.trans ?_ (congrArg (G6 m c) (emb6 t r k h)).symm)
    rw [← bOf_pt t r h, ← sOf_pt t r h]
    rfl
  · obtain ⟨t, r, k, h, hi⟩ := exists_row i
    exact ⟨t, flush0_6 t, ((emb6 t r k h).trans hi) ▸ View.emb_mem_set _ _⟩

/-- The last grid point. -/
def last : Fin cfg0.N := ⟨7, by decide⟩

/-- The last point writes the whole array of scales back. -/
theorem whole7 : (cfg0.win 7).WholeAt last := by
  refine ⟨(flush0_7 last).mpr rfl, fun t ht => Fin.ext ?_, ?_⟩
  · have h := (flush0_7 t).mp ht
    have h8 : t.val < 8 := t.isLt
    show t.val = 7
    omega
  · exact (by decide : ∀ a, win0_7.index (⟨7, by decide⟩ : Fin grid0.N) a = 0 ∧ win0_7.xsize (grid0.coords (⟨7, by decide⟩ : Fin grid0.N)) a = win0_7.shape.size a)

/-- The array of scales after the run: whatever the last point leaves is the scale of every row. -/
theorem arr7 (c : Dev nD) (G : Buf (Elt Ideal) ((cfg0.win 7).arr.view.loc (c.tc : Thread nD τ))) (h : (rdat m c).ArrAt 7 cfg0.N G) : G = G7 m c := by
  obtain ⟨X, hX, hG⟩ := h.emb_eq_of_wholeAt whole7
  have hR : RelY m c last X := Dat.toRRel_leaves (dat := dats m 0 c) (fgt := marked) (Rl := relOf m c) (w := 7) rfl hX
  funext (j : S2x128.Idx)
  refine (hG j).trans ?_
  have h0 : (j 0).val < 2 := (j 0).isLt
  have h1 : (j 1).val < 128 := (j 1).isLt
  have hj : (j : S2x128.Idx) = ix2 (j 0) (j 1) := by
    funext a
    match a with
    | ⟨0, _⟩ => rfl
    | ⟨1, _⟩ => rfl
  show X j = svA m c (j 0) (j 1)
  rw [hj]
  exact hR (j 0) (j 1) (by show 128 * (j 0).val + (j 1).val < 32 * (7 + 1); omega)

/-- The run's post, read: the three results from the arguments, and the arguments unchanged. -/
theorem post_read {r : PUnit × MemSt nD τ sig (Elt Ideal)} (h : Pipeline.RDat.FramePost (cfgs 0) (rdat m) (V m) r) (c : Dev nD) :
    (r.2.mem ((c : Thread nD τ).loc main_v4_0) = G5 m c
      ∧ r.2.mem ((c : Thread nD τ).loc main_v4_1) = G6 m c
      ∧ r.2.mem ((c : Thread nD τ).loc main_v4_2) = G7 m c) :=
  ⟨(((dats m 0 c).toR.override_arrAt (w := 5) rfl _ _).trans ((dats m 0 c).toR_arrAt_iff 5 _ _)).mp ((h c).1 5) |>.trans (arr5 m c),
   (((dats m 0 c).toR.override_arrAt (w := 6) rfl _ _).trans ((dats m 0 c).toR_arrAt_iff 6 _ _)).mp ((h c).1 6) |>.trans (arr6 m c),
   arr7 m c _ ((h c).1 7)⟩

/-- The run with its results and its counters. -/
theorem run : θ_run defs (onTc (τ := τ) (main (F := Ideal))) ⟨m, fun _ => 0, ρ⟩ (fun r => (∀ c : Dev nD,
      r.2.mem ((c : Thread nD τ).loc main_v4_0) = G5 m c
      ∧ r.2.mem ((c : Thread nD τ).loc main_v4_1) = G6 m c
      ∧ r.2.mem ((c : Thread nD τ).loc main_v4_2) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs _ _).mono (fun r hr => ⟨fun c => ⟨(post_read m hr.1 c).1, (post_read m hr.1 c).2.1, (post_read m hr.1 c).2.2,
      ((hr.1 c).2 main_arg0 (Pipeline.mem_restRefs_of main_arg0 (by decide) (by decide))).trans (V_main_arg0 m c),
      (Pipeline.RDat.FramePost.arr_in hr.1 c 1 rfl).trans (V_main_arg1 m c),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c)⟩, hr.2⟩)
    (run_main_quiescent m ρ)

end Cert.KernelIdeal.Vals
end
-- ==== Proof.RefRun.lean ====
/- What the reference leaves in its three result arrays at the ideal values, from the arguments. -/
module

public import proofs.«01_k».proof.Proof.RefVals
public import proofs.«01_k».proof.Proof.Finals

@[expose] public section

set_option maxRecDepth 16384

noncomputable section

namespace Cert.ReferenceIdeal.Vals
open Cert.ReferenceIdeal Cert.ReferenceIdeal.Gen Cert.ReferenceIdeal.Facts
open Idealize.ShloMosaic Idealize.ShloMosaic.TcCoe
open Idealize.SL Idealize.SL.Sem
open Cert.KernelIdeal.Vals (rsR eabs resA bOf sOf zero_blocks)

variable (m : (ℓ : Loc nD τ sig) → Buf (Elt Ideal) ℓ) (ρ : Dev nD → PrngReg)

/-- The scaled largest absolute value of a row, as the reference takes it. -/
def tB (R g : Fin 12288 → EReal) : EReal := (Finset.univ.sup fun k => eabs (R k * rsR R * g k)) * Ideal.ofBits FTy.f32 0x3B124925#32

/-- The code of a column of a row, as the reference takes it. -/
def codeB (R g : Fin 12288 → EReal) (k : Fin 12288) : EReal :=
  min (Ideal.ofBits FTy.f32 0x43E00000#32) (max (Ideal.ofBits FTy.f32 0xC3E00000#32) (R k * rsR R * g k * Ideal.exp2 (0 - expR (tB R g))))

/-- The residual of row `s` of batch `b`, from the memory. -/
def Rr (c : Dev nD) (b : Fin 2) (s : Fin 128) (k : Fin 12288) : EReal :=
  resA (m ((c : Thread nD τ).loc main_arg0)) (m ((c : Thread nD τ).loc main_arg1)) (m ((c : Thread nD τ).loc main_arg2)) (m ((c : Thread nD τ).loc main_arg3)) b s k

/-- The gain, from the memory. -/
def gr (c : Dev nD) (k : Fin 12288) : EReal := m ((c : Thread nD τ).loc main_arg4) (ix1 k)

/-- The one grid point's block of the first window is the shards' codes. -/
theorem index0 : ∀ t : Fin cfg0.N, (cfg0.win 0).index t = ![0, 0, 0, 0] :=
  (by decide : ∀ t : Fin grid0.N, win0_0.index t = ![0, 0, 0, 0])
/-- The scales' window is the whole array. -/
theorem index1 : ∀ t : Fin cfg0.N, (cfg0.win 1).index t = ![0, 0, 0] :=
  (by decide : ∀ t : Fin grid0.N, win0_1.index t = ![0, 0, 0])
/-- The bias's window is the whole row. -/
theorem index2 : ∀ t : Fin cfg0.N, (cfg0.win 2).index t = ![0, 0, 0] :=
  (by decide : ∀ t : Fin grid0.N, win0_2.index t = ![0, 0, 0])
/-- The incoming residual's window is the whole array. -/
theorem index3 : ∀ t : Fin cfg0.N, (cfg0.win 3).index t = ![0, 0, 0] :=
  (by decide : ∀ t : Fin grid0.N, win0_3.index t = ![0, 0, 0])
/-- The gain's window is the whole row. -/
theorem index4 : ∀ t : Fin cfg0.N, (cfg0.win 4).index t = ![0, 0, 0] :=
  (by decide : ∀ t : Fin grid0.N, win0_4.index t = ![0, 0, 0])
/-- The residual's window is the whole array. -/
theorem index5 : ∀ t : Fin cfg0.N, (cfg0.win 5).index t = ![0, 0] :=
  (by decide : ∀ t : Fin grid0.N, win0_5.index t = ![0, 0])
/-- The codes' window is the whole array. -/
theorem index6 : ∀ t : Fin cfg0.N, (cfg0.win 6).index t = ![0, 0] :=
  (by decide : ∀ t : Fin grid0.N, win0_6.index t = ![0, 0])
/-- The scales' window is the whole array. -/
theorem index7 : ∀ t : Fin cfg0.N, (cfg0.win 7).index t = ![0, 0] :=
  (by decide : ∀ t : Fin grid0.N, win0_7.index t = ![0, 0])

/-- The shards' codes. -/
theorem blk0 (c : Dev nD) (t : Fin cfg0.N) (p : Fin 4) (b : Fin 2) (s : Fin 128) (k : Fin 12288) :
    iblk m c 0 t (ix4 p b s k) = m ((c : Thread nD τ).loc main_arg0) (ix4 p b s k) := by
  have e : ((cfg0.win 0).blk t).view.emb (ix4 p b s k) = (ix4 p b s k : S4x2x128x12288.Idx) := by
    funext a
    refine Fin.ext (((cfg0.win 0).rect_emb_val t (ix4 p b s k) a rfl).trans ?_)
    rw [index0 t]
    match a with
    | ⟨0, _⟩ => exact zero_blocks _ _
    | ⟨1, _⟩ => exact zero_blocks _ _
    | ⟨2, _⟩ => exact zero_blocks _ _
    | ⟨3, _⟩ => exact zero_blocks _ _
  show V m c main_arg0 (((cfg0.win 0).blk t).view.emb (ix4 p b s k)) = _
  rw [e, V_main_arg0]

/-- The shards' scales. -/
theorem blk1 (c : Dev nD) (t : Fin cfg0.N) (p : Fin 4) (b : Fin 2) (s : Fin 128) :
    iblk m c 1 t (ix3 p b s) = m ((c : Thread nD τ).loc main_arg1) (ix3 p b s) := by
  have e : ((cfg0.win 1).blk t).view.emb (ix3 p b s) = (ix3 p b s : S4x2x128.Idx) := by
    funext a
    refine Fin.ext (((cfg0.win 1).rect_emb_val t (ix3 p b s) a rfl).trans ?_)
    rw [index1 t]
    match a with
    | ⟨0, _⟩ => exact zero_blocks _ _
    | ⟨1, _⟩ => exact zero_blocks _ _
    | ⟨2, _⟩ => exact zero_blocks _ _
  show V m c main_arg1 (((cfg0.win 1).blk t).view.emb (ix3 p b s)) = _
  rw [e, V_main_arg1]

/-- The bias. -/
theorem blk2 (c : Dev nD) (t : Fin cfg0.N) (k : Fin 12288) :
    iblk m c 2 t (ix3 0 0 k) = m ((c : Thread nD τ).loc main_arg2) (ix1 k) := by
  have e : ((cfg0.win 2).blk t).view.emb (ix3 0 0 k) = (ix3 0 0 k : S1x1x12288.Idx) := by
    funext a
    refine Fin.ext (((cfg0.win 2).rect_emb_val t (ix3 0 0 k) a rfl).trans ?_)
    rw [index2 t]
    match a with
    | ⟨0, _⟩ => exact zero_blocks _ _
    | ⟨1, _⟩ => exact zero_blocks _ _
    | ⟨2, _⟩ => exact zero_blocks _ _
  show V m c main_v0 (((cfg0.win 2).blk t).view.emb (ix3 0 0 k)) = _
  rw [e]
  entry_read
  refine shapeCast_apply (s := S12288) (t := S1x1x12288) _ _ _ _ ?_
  rw [Shape.rowMajor_val_one, Shape.rowMajor_val_three]
  exact (zero_blocks _ _).symm

/-- The incoming residual. -/
theorem blk3 (c : Dev nD) (t : Fin cfg0.N) (b : Fin 2) (s : Fin 128) (k : Fin 12288) :
    iblk m c 3 t (ix3 b s k) = m ((c : Thread nD τ).loc main_arg3) (ix3 b s k) := by
  have e : ((cfg0.win 3).blk t).view.emb (ix3 b s k) = (ix3 b s k : S2x128x12288.Idx) := by
    funext a
    refine Fin.ext (((cfg0.win 3).rect_emb_val t (ix3 b s k) a rfl).trans ?_)
    rw [index3 t]
    match a with
    | ⟨0, _⟩ => exact zero_blocks _ _
    | ⟨1, _⟩ => exact zero_blocks _ _
    | ⟨2, _⟩ => exact zero_blocks _ _
  show V m c main_arg3 (((cfg0.win 3).blk t).view.emb (ix3 b s k)) = _
  rw [e, V_main_arg3]

/-- The gain. -/
theorem blk4 (c : Dev nD) (t : Fin cfg0.N) (k : Fin 12288) :
    iblk m c 4 t (ix3 0 0 k) = m ((c : Thread nD τ).loc main_arg4) (ix1 k) := by
  have e : ((cfg0.win 4).blk t).view.emb (ix3 0 0 k) = (ix3 0 0 k : S1x1x12288.Idx) := by
    funext a
    refine Fin.ext (((cfg0.win 4).rect_emb_val t (ix3 0 0 k) a rfl).trans ?_)
    rw [index4 t]
    match a with
    | ⟨0, _⟩ => exact zero_blocks _ _
    | ⟨1, _⟩ => exact zero_blocks _ _
    | ⟨2, _⟩ => exact zero_blocks _ _
  show V m c main_v1 (((cfg0.win 4).blk t).view.emb (ix3 0 0 k)) = _
  rw [e]
  entry_read
  refine shapeCast_apply (s := S12288) (t := S1x1x12288) _ _ _ _ ?_
  rw [Shape.rowMajor_val_one, Shape.rowMajor_val_three]
  exact (zero_blocks _ _).symm

/-! ## The loads and the stores are of whole blocks -/

/-- Four zeros. -/
theorem zeros4 : (![0, 0, 0, 0] : Fin 4 → ℕ) = fun _ => 0 := by decide
/-- Three zeros. -/
theorem zeros3 : (![0, 0, 0] : Fin 3 → ℕ) = fun _ => 0 := by decide
/-- Two zeros. -/
theorem zeros2 : (![0, 0] : Fin 2 → ℕ) = fun _ => 0 := by decide

variable (x0 : Vec Ideal S4x2x128x12288 .fp8e4m3) (x1 : Vec Ideal S4x2x128 .f32) (x2 : Vec Ideal S1x1x12288 .f32)
  (x3 : Vec Ideal S2x128x12288 .bf16) (x4 : Vec Ideal S1x1x12288 .f32)

/-- The block left in the residual array. -/
theorem out5_eq : out0_5 (F := Ideal) x0 x1 x2 x3 x4 = k0_pay2 (k0_pay5 x0 x1 x2 x3) := by
  unfold out0_5
  rw [View.ld_unit_zero zeros4, View.ld_unit_zero zeros3, View.ld_unit_zero zeros3, View.ld_unit_zero zeros3]
  exact View.canon_cons_unit_zero zeros2 _ _ _

/-- The scaled row maxima, from whole loads. -/
theorem pay9_eq : k0_pay9 (F := Ideal) x0 x1 x2 x3 x4 = k0_pay7 x0 x1 x2 x3 x4 := by
  unfold k0_pay9
  rw [View.ld_unit_zero zeros4, View.ld_unit_zero zeros3, View.ld_unit_zero zeros3, View.ld_unit_zero zeros3, View.ld_unit_zero zeros3]

/-- The comparisons, from whole loads. -/
theorem pay10_eq : k0_pay10 (F := Ideal) x0 x1 x2 x3 x4 = k0_pay8 x0 x1 x2 x3 x4 := by
  unfold k0_pay10
  rw [View.ld_unit_zero zeros4, View.ld_unit_zero zeros3, View.ld_unit_zero zeros3, View.ld_unit_zero zeros3, View.ld_unit_zero zeros3]

/-- The block left in the code array. -/
theorem out6_eq : out0_6 (F := Ideal) x0 x1 x2 x3 x4 = k0_pay3 (k0_pay6 x0 x1 x2 x3 x4) (k0_pay7 x0 x1 x2 x3 x4) (k0_pay8 x0 x1 x2 x3 x4) := by
  unfold out0_6
  rw [pay9_eq, pay10_eq, View.ld_unit_zero zeros4, View.ld_unit_zero zeros3, View.ld_unit_zero zeros3, View.ld_unit_zero zeros3, View.ld_unit_zero zeros3]
  exact View.canon_cons_unit_zero zeros2 _ _ _

/-- The block left in the array of scales. -/
theorem out7_eq : out0_7 (F := Ideal) x0 x1 x2 x3 x4 = k0_pay4 (k0_pay7 x0 x1 x2 x3 x4) (k0_pay8 x0 x1 x2 x3 x4) := by
  unfold out0_7
  rw [pay9_eq, pay10_eq]
  exact View.canon_cons_unit_zero zeros2 _ _ _

/-- The exponent of a row, from the loaded blocks. -/
theorem exp_apply (b : Fin 2) (s : Fin 128) :
    k0_pay1 (F := Ideal) (k0_pay7 x0 x1 x2 x3 x4) (k0_pay8 x0 x1 x2 x3 x4) (ix3 b s 0)
      = expR (tB (resB x0 x1 x2 x3 b s) fun k => x4 (ix3 0 0 k)) :=
  (pay1_apply _ _ b s (pay8_apply x0 x1 x2 x3 x4 b s)).trans (congrArg expR (pay7_apply x0 x1 x2 x3 x4 b s))

/-- The code block at an index. -/
theorem out6_apply (b : Fin 2) (s : Fin 128) (k : Fin 12288) (h : 128 * b.val + s.val < 256) :
    out0_6 (F := Ideal) x0 x1 x2 x3 x4 (ix2 ⟨128 * b.val + s.val, h⟩ k) = codeB (resB x0 x1 x2 x3 b s) (fun k => x4 (ix3 0 0 k)) k := by
  rw [out6_eq]
  refine (pay3_apply _ _ _ b s k h).trans ?_
  rw [exp_apply x0 x1 x2 x3 x4 b s, pay6_apply x0 x1 x2 x3 x4 b s k]
  rfl

/-- The scale block at an index. -/
theorem out7_apply (b : Fin 2) (s : Fin 128) :
    out0_7 (F := Ideal) x0 x1 x2 x3 x4 (ix2 b s) = Ideal.exp2 (expR (tB (resB x0 x1 x2 x3 b s) fun k => x4 (ix3 0 0 k))) := by
  rw [out7_eq]
  exact (pay4_apply _ _ b s).trans (congrArg Ideal.exp2 (exp_apply x0 x1 x2 x3 x4 b s))

/-- The residual block at an index. -/
theorem out5_apply (b : Fin 2) (s : Fin 128) (k : Fin 12288) (h : 128 * b.val + s.val < 256) :
    out0_5 (F := Ideal) x0 x1 x2 x3 x4 (ix2 ⟨128 * b.val + s.val, h⟩ k) = resB x0 x1 x2 x3 b s k := by
  rw [out5_eq]
  exact (pay2_apply _ b s k h).trans (pay5_apply x0 x1 x2 x3 b s k)

/-- The residual from the blocks of the arguments is the residual from the arguments. -/
theorem resB_blk (c : Dev nD) (t : Fin cfg0.N) (b : Fin 2) (s : Fin 128) :
    resB (iblk m c 0 t) (iblk m c 1 t) (iblk m c 2 t) (iblk m c 3 t) b s = Rr m c b s := by
  funext k
  unfold resB Rr resA
  refine congrArg₂ (fun p q : EReal => p + q) (congrArg₂ (fun p q : EReal => p + q) (Finset.sum_congr rfl fun p _ => ?_) (blk2 m c t k)) (blk3 m c t b s k)
  exact (congrArg₂ (fun p q : EReal => p * q) (blk0 m c t p b s k) (blk1 m c t p b s)).trans (mul_comm _ _)

/-- The gain's block is the gain. -/
theorem gain_blk (c : Dev nD) (t : Fin cfg0.N) : (fun k => iblk m c 4 t (ix3 0 0 k)) = gr m c := funext fun k => blk4 m c t k

/-! ## The result arrays -/

/-- The residual array. -/
def H5 (c : Dev nD) : S256x12288.Idx → EReal := fun i => Rr m c (bOf (i 0)) (sOf (i 0)) (i 1)
/-- The code array. -/
def H6 (c : Dev nD) : S256x12288.Idx → EReal := fun i => codeB (Rr m c (bOf (i 0)) (sOf (i 0))) (gr m c) (i 1)
/-- The array of scales. -/
def H7 (c : Dev nD) : S2x128.Idx → EReal := fun i => Ideal.exp2 (expR (tB (Rr m c (i 0) (i 1)) (gr m c)))

/-- An index of the flattened arrays names a batch, a row and a column. -/
theorem exists_row (i : S256x12288.Idx) : ∃ (b : Fin 2) (s : Fin 128) (k : Fin 12288) (h : 128 * b.val + s.val < 256), (ix2 ⟨128 * b.val + s.val, h⟩ k : S256x12288.Idx) = i := by
  have h0 : (i 0).val < 256 := (i 0).isLt
  refine ⟨⟨(i 0).val / 128, by omega⟩, ⟨(i 0).val % 128, by omega⟩, i 1, by show 128 * ((i 0).val / 128) + (i 0).val % 128 < 256; omega, ?_⟩
  funext a
  match a with
  | ⟨0, _⟩ => exact Fin.ext (by show 128 * ((i 0).val / 128) + (i 0).val % 128 = (i 0).val; omega)
  | ⟨1, _⟩ => rfl

/-- An index of the array of scales is a pair. -/
theorem exists_pair (y : S2x128.Idx) : ∃ (b : Fin 2) (s : Fin 128), (ix2 b s : S2x128.Idx) = y := by
  refine ⟨y 0, y 1, ?_⟩
  funext a
  match a with
  | ⟨0, _⟩ => rfl
  | ⟨1, _⟩ => rfl

/-- The batch of a row of the flattened arrays. -/
theorem bOf_row (b : Fin 2) (s : Fin 128) (h : 128 * b.val + s.val < 256) : bOf ⟨128 * b.val + s.val, h⟩ = b :=
  Fin.ext (by show (128 * b.val + s.val) / 128 = b.val; omega)
/-- The row within the batch of a row of the flattened arrays. -/
theorem sOf_row (b : Fin 2) (s : Fin 128) (h : 128 * b.val + s.val < 256) : sOf ⟨128 * b.val + s.val, h⟩ = s :=
  Fin.ext (by show (128 * b.val + s.val) % 128 = s.val; omega)

/-- The residual's block is the array. -/
theorem emb5 (t : Fin cfg0.N) (y : S256x12288.Idx) : ((cfg0.win 5).blk t).view.emb y = y := by
  funext a
  refine Fin.ext (((cfg0.win 5).rect_emb_val t y a rfl).trans ?_)
  rw [index5 t]
  match a with
  | ⟨0, _⟩ => exact zero_blocks _ _
  | ⟨1, _⟩ => exact zero_blocks _ _
/-- The codes' block is the array. -/
theorem emb6 (t : Fin cfg0.N) (y : S256x12288.Idx) : ((cfg0.win 6).blk t).view.emb y = y := by
  funext a
  refine Fin.ext (((cfg0.win 6).rect_emb_val t y a rfl).trans ?_)
  rw [index6 t]
  match a with
  | ⟨0, _⟩ => exact zero_blocks _ _
  | ⟨1, _⟩ => exact zero_blocks _ _
/-- The scales' block is the array. -/
theorem emb7 (t : Fin cfg0.N) (y : S2x128.Idx) : ((cfg0.win 7).blk t).view.emb y = y := by
  funext a
  refine Fin.ext (((cfg0.win 7).rect_emb_val t y a rfl).trans ?_)
  rw [index7 t]
  match a with
  | ⟨0, _⟩ => exact zero_blocks _ _
  | ⟨1, _⟩ => exact zero_blocks _ _

/-- A whole block written back is itself. -/
theorem cut5 (t : Fin cfg0.N) (X : Vec Ideal S256x12288 .bf16) (y : S256x12288.Idx) : (cfg0.win 5).cut (grid0.coords t) X y = X y := rfl
/-- A block read from an array is the array under it. -/
theorem read5 (t : Fin cfg0.N) (G : S256x12288.Idx → EReal) (y : S256x12288.Idx) :
    ((cfg0.win 5).blk t).view.read (Elt Ideal) G y = G (((cfg0.win 5).blk t).view.emb y) := rfl
/-- A whole block written back is itself. -/
theorem cut6 (t : Fin cfg0.N) (X : Vec Ideal S256x12288 .fp8e4m3) (y : S256x12288.Idx) : (cfg0.win 6).cut (grid0.coords t) X y = X y := rfl
/-- A block read from an array is the array under it. -/
theorem read6 (t : Fin cfg0.N) (G : S256x12288.Idx → EReal) (y : S256x12288.Idx) :
    ((cfg0.win 6).blk t).view.read (Elt Ideal) G y = G (((cfg0.win 6).blk t).view.emb y) := rfl
/-- A whole block written back is itself. -/
theorem cut7 (t : Fin cfg0.N) (X : Vec Ideal S2x128 .f32) (y : S2x128.Idx) : (cfg0.win 7).cut (grid0.coords t) X y = X y := rfl
/-- A block read from an array is the array under it. -/
theorem read7 (t : Fin cfg0.N) (G : S2x128.Idx → EReal) (y : S2x128.Idx) :
    ((cfg0.win 7).blk t).view.read (Elt Ideal) G y = G (((cfg0.win 7).blk t).view.emb y) := rfl

/-- The residual array after the run. -/
theorem arr5 (c : Dev nD) : (dats m 0 c).arrAt 5 cfg0.N = H5 m c := by
  refine (dats m 0 c).arrAt_eq_of_cover 5 (H5 m c) (fun t _ => ?_) (fun i => ?_)
  · refine (Value.flushed5 m c t).trans (funext fun (y : S256x12288.Idx) => (cut5 t _ y).trans (Eq.trans ?_ (read5 t _ y).symm))
    rw [emb5]
    obtain ⟨b, s, k, h, rfl⟩ := exists_row y
    refine (out5_apply _ _ _ _ _ b s k h).trans ((congrFun (resB_blk m c t b s) k).trans ?_)
    show _ = Rr m c (bOf ⟨128 * b.val + s.val, h⟩) (sOf ⟨128 * b.val + s.val, h⟩) k
    rw [bOf_row, sOf_row]
  · exact ⟨⟨0, by decide⟩, flush0_5 _, (emb5 ⟨0, by decide⟩ i) ▸ View.emb_mem_set _ _⟩

/-- The code array after the run. -/
theorem arr6 (c : Dev nD) : (dats m 0 c).arrAt 6 cfg0.N = H6 m c := by
  refine (dats m 0 c).arrAt_eq_of_cover 6 (H6 m c) (fun t _ => ?_) (fun i => ?_)
  · refine (Value.flushed6 m c t).trans (funext fun (y : S256x12288.Idx) => (cut6 t _ y).trans (Eq.trans ?_ (read6 t _ y).symm))
    rw [emb6]
    obtain ⟨b, s, k, h, rfl⟩ := exists_row y
    refine (out6_apply _ _ _ _ _ b s k h).trans ((congrArg₂ (fun R g => codeB R g k) (resB_blk m c t b s) (gain_blk m c t)).trans ?_)
    show _ = codeB (Rr m c (bOf ⟨128 * b.val + s.val, h⟩) (sOf ⟨128 * b.val + s.val, h⟩)) (gr m c) k
    rw [bOf_row, sOf_row]
  · exact ⟨⟨0, by decide⟩, flush0_6 _, (emb6 ⟨0, by decide⟩ i) ▸ View.emb_mem_set _ _⟩

/-- The array of scales after the run. -/
theorem arr7 (c : Dev nD) : (dats m 0 c).arrAt 7 cfg0.N = H7 m c := by
  refine (dats m 0 c).arrAt_eq_of_cover 7 (H7 m c) (fun t _ => ?_) (fun i => ?_)
  · refine (Value.flushed7 m c t).trans (funext fun (y : S2x128.Idx) => (cut7 t _ y).trans (Eq.trans ?_ (read7 t _ y).symm))
    rw [emb7]
    obtain ⟨b, s, rfl⟩ := exists_pair y
    exact (out7_apply _ _ _ _ _ b s).trans (congrArg₂ (fun R g => Ideal.exp2 (expR (tB R g))) (resB_blk m c t b s) (gain_blk m c t))
  · exact ⟨⟨0, by decide⟩, flush0_7 _, (emb7 ⟨0, by decide⟩ i) ▸ View.emb_mem_set _ _⟩

/-- The run with its results. -/
theorem run : θ_run defs (onTc (τ := τ) (main (F := Ideal))) ⟨m, fun _ => 0, ρ⟩ (fun r => ∀ c : Dev nD,
      r.2.mem ((c : Thread nD τ).loc main_v2_0) = H5 m c
      ∧ r.2.mem ((c : Thread nD τ).loc main_v2_1) = H6 m c
      ∧ r.2.mem ((c : Thread nD τ).loc main_v2_2) = H7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1.trans (arr5 m c), (h c).2.1.trans (arr6 m c), (h c).2.2.1.trans (arr7 m c), (h c).2.2.2⟩)
    (Value.run_blocks m ρ)

end Cert.ReferenceIdeal.Vals
end
-- ==== Proof.Quant.lean ====
/- The kernel's count of powers of two is the reference's floor of a logarithm: scales and inverse scales agree. -/
module

public import proofs.«01_k».proof.Proof.RefRun

@[expose] public section

set_option maxRecDepth 16384

noncomputable section

namespace Cert.Quant
open Idealize.ShloMosaic
open Cert.KernelIdeal.Vals (cnt expK scaleK invK)
open Cert.ReferenceIdeal.Vals (expR)

/-- The word with exponent field `n` and nothing else. -/
def pw (n : ℕ) : EReal := Ideal.ofBits FTy.f32 (IntOp.shli ArithUnit.vector (BitVec.ofNat 32 n) 23#32)

/-- The sign bit of such a word is clear. -/
theorem sign_clear : ∀ n : Fin 256, ((IntOp.shli ArithUnit.vector (BitVec.ofNat 32 n.val) 23#32).extractLsb' 31 1 == 1#1) = false := by decide
/-- Its exponent field. -/
theorem exp_field : ∀ n : Fin 256, ((IntOp.shli ArithUnit.vector (BitVec.ofNat 32 n.val) 23#32).extractLsb' 23 8).toNat = n.val := by decide
/-- Its fraction field is zero. -/
theorem frac_zero : ∀ n : Fin 256, ((IntOp.shli ArithUnit.vector (BitVec.ofNat 32 n.val) 23#32).extractLsb' 0 23).toNat = 0 := by decide

/-- A word with a normal exponent field and no fraction is a power of two. -/
theorem pw_normal (n : ℕ) (h1 : 1 ≤ n) (h2 : n ≤ 254) : pw n = (((2 : ℝ) ^ ((n : ℤ) - 127) : ℝ) : EReal) := by
  have hs := sign_clear ⟨n, by omega⟩
  have he := exp_field ⟨n, by omega⟩
  have hf := frac_zero ⟨n, by omega⟩
  unfold pw
  generalize IntOp.shli ArithUnit.vector (BitVec.ofNat 32 n) 23#32 = w at hs he hf ⊢
  show Ideal.ieee 8 23 w = _
  unfold Ideal.ieee
  simp only [Nat.reduceAdd, hs, he, hf]
  rw [if_neg (by omega), if_neg (by omega)]
  refine congrArg (fun x : ℝ => (x : EReal)) ?_
  have h : ((n : ℤ) - (2 ^ (8 - 1) - 1) - (23 : ℕ)) = ((n : ℤ) - 127) - 23 := by norm_num
  rw [h, zpow_sub₀ (by norm_num : (2 : ℝ) ≠ 0)]
  norm_num
  ring

/-- The word with the greatest exponent field is infinity. -/
theorem pw_top : pw 255 = ⊤ := by
  have hs := sign_clear ⟨255, by omega⟩
  have he := exp_field ⟨255, by omega⟩
  have hf := frac_zero ⟨255, by omega⟩
  unfold pw
  generalize IntOp.shli ArithUnit.vector (BitVec.ofNat 32 255) 23#32 = w at hs he hf ⊢
  show Ideal.ieee 8 23 w = _
  unfold Ideal.ieee
  simp only [Nat.reduceAdd, hs, he, hf]
  norm_num

/-- The least normal number. -/
theorem least_normal : Ideal.ofBits FTy.f32 0x00800000#32 = (((2 : ℝ) ^ (-126 : ℤ) : ℝ) : EReal) :=
  (pw_normal 1 (by omega) (by omega)).trans (by norm_num)

/-- Adding up words of zeros and ones counts the ones. -/
theorem fold_count (q : Fin 256 → Prop) [DecidablePred q] (s : Finset (Fin 256)) :
    Finset.fold IntOp.addi (0#32) (fun x => if q x then 1#32 else 0#32) s = BitVec.ofNat 32 (s.filter q).card := by
  induction s using Finset.induction_on with
  | empty => rfl
  | insert a s ha ih =>
    rw [Finset.fold_insert ha, ih, Finset.filter_insert]
    by_cases hq : q a
    · rw [if_pos hq, if_pos hq, Finset.card_insert_of_notMem (fun h => ha (Finset.mem_filter.mp h).1)]
      show 1#32 + BitVec.ofNat 32 _ = _
      rw [add_comm, BitVec.ofNat_add]
    · rw [if_neg hq, if_neg hq]
      show 0#32 + BitVec.ofNat 32 _ = _
      rw [BitVec.zero_add]

/-- A word below 256 is zero only when it is. -/
theorem word_zero : ∀ x : Fin 256, IntOp.cmpi CmpIPredicate.eq (BitVec.ofNat 32 x.val) 0#32 = BitVec.ofBool (decide (x.val = 0)) := by decide

/-- One term of the kernel's count. -/
theorem term_eq (x : Fin 256) (p : Prop) [Decidable p] :
    Scalar.select (IntOp.ori (IntOp.cmpi CmpIPredicate.eq (BitVec.ofNat 32 x.val) 0#32) (BitVec.ofBool (decide p))) (0#32) (1#32)
      = if ¬ (x.val = 0 ∨ p) then 1#32 else 0#32 := by
  rw [word_zero]
  by_cases h : x.val = 0 <;> by_cases hp : p <;> simp [h, hp] <;> rfl

open Classical in
/-- The kernel's count, as the number of powers of two not above `t`. -/
theorem cnt_eq (t : EReal) : cnt t = BitVec.ofNat 32 (Finset.univ.filter fun x : Fin 256 => ¬ (x.val = 0 ∨ t < pw x.val)).card := by
  rw [← fold_count]
  unfold cnt
  refine Finset.fold_congr fun x _ => ?_
  exact (congrArg (fun d => Scalar.select (IntOp.ori (IntOp.cmpi CmpIPredicate.eq (BitVec.ofNat 32 x.val) 0#32) (BitVec.ofBool d)) (0#32) (1#32))
    (by congr)).trans (term_eq x (t < pw x.val))

/-- Nothing is counted below the least normal number. -/
theorem cnt_small (t : ℝ) (h : t < (2 : ℝ) ^ (-126 : ℤ)) : cnt t = 0#32 := by
  classical
  rw [cnt_eq, Finset.filter_eq_empty_iff.mpr]
  · rfl
  · intro x _
    rw [not_not]
    have hx := x.isLt
    by_cases h0 : x.val = 0
    · exact .inl h0
    right
    by_cases h255 : x.val = 255
    · rw [h255, pw_top]; exact EReal.coe_lt_top t
    rw [pw_normal x.val (by omega) (by omega), EReal.coe_lt_coe_iff]
    exact h.trans_le (zpow_le_zpow_right₀ (by norm_num) (by omega))

/-- The count of a number with biased exponent `N` is `N`. -/
theorem cnt_normal (t : ℝ) (N : ℕ) (h1 : 1 ≤ N) (h2 : N ≤ 253) (hl : (2 : ℝ) ^ ((N : ℤ) - 127) ≤ t) (hu : t < (2 : ℝ) ^ ((N : ℤ) - 126)) :
    cnt t = BitVec.ofNat 32 N := by
  classical
  rw [cnt_eq]
  refine congrArg (BitVec.ofNat 32) ?_
  have e : (Finset.univ.filter fun x : Fin 256 => ¬ (x.val = 0 ∨ (t : EReal) < pw x.val)) = Finset.Ioc (⟨0, by omega⟩ : Fin 256) ⟨N, by omega⟩ := by
    ext x
    have hx := x.isLt
    rw [Finset.mem_filter, Finset.mem_Ioc, Fin.lt_def, Fin.le_def, not_or, not_lt]
    show _ ∧ x.val ≠ 0 ∧ _ ↔ 0 < x.val ∧ x.val ≤ N
    by_cases h0 : x.val = 0
    · simp [h0]
    by_cases h255 : x.val = 255
    · rw [h255, pw_top]
      have := EReal.coe_ne_top t
      simp [this]
      omega
    rw [pw_normal x.val (by omega) (by omega), EReal.coe_le_coe_iff]
    constructor
    · rintro ⟨_, _, h⟩
      refine ⟨by omega, ?_⟩
      have h' := (zpow_lt_zpow_iff_right₀ (by norm_num : (1 : ℝ) < 2)).mp (h.trans_lt hu)
      omega
    · rintro ⟨_, h⟩
      exact ⟨Finset.mem_univ _, h0, (zpow_le_zpow_right₀ (by norm_num) (by omega)).trans hl⟩
  rw [e, Fin.card_Ioc]
  rfl

/-- The kernel's two words from a count. -/
theorem scale_word : ∀ N : Fin 253, 1 ≤ N.val →
    IntOp.addi 127#32 (Scalar.select (IntOp.ori (IntOp.cmpi CmpIPredicate.eq (BitVec.ofNat 32 N.val) 0#32) (IntOp.cmpi CmpIPredicate.eq (BitVec.ofNat 32 N.val) 255#32)) 0#32 (IntOp.subi (BitVec.ofNat 32 N.val) 126#32)) = BitVec.ofNat 32 (N.val + 1)
    ∧ IntOp.subi 127#32 (Scalar.select (IntOp.ori (IntOp.cmpi CmpIPredicate.eq (BitVec.ofNat 32 N.val) 0#32) (IntOp.cmpi CmpIPredicate.eq (BitVec.ofNat 32 N.val) 255#32)) 0#32 (IntOp.subi (BitVec.ofNat 32 N.val) 126#32)) = BitVec.ofNat 32 (253 - N.val) := by decide

/-- The biased exponent of a number. -/
theorem exists_exponent (t : ℝ) (hl : (2 : ℝ) ^ (-126 : ℤ) ≤ t) (hu : t < (2 : ℝ) ^ (126 : ℤ)) :
    ∃ N : ℕ, 1 ≤ N ∧ N ≤ 252 ∧ (2 : ℝ) ^ ((N : ℤ) - 127) ≤ t ∧ t < (2 : ℝ) ^ ((N : ℤ) - 126) := by
  have ht : 0 < t := lt_of_lt_of_le (by positivity) hl
  obtain ⟨n, hn, hn'⟩ := exists_mem_Ico_zpow ht (by norm_num : (1 : ℝ) < 2)
  have h1 := (zpow_lt_zpow_iff_right₀ (by norm_num : (1 : ℝ) < 2)).mp (hl.trans_lt hn')
  have h2 := (zpow_lt_zpow_iff_right₀ (by norm_num : (1 : ℝ) < 2)).mp (hn.trans_lt hu)
  refine ⟨(n + 127).toNat, by omega, by omega, ?_, ?_⟩
  · rwa [show (((n + 127).toNat : ℤ) - 127) = n by omega]
  · rwa [show (((n + 127).toNat : ℤ) - 126) = n + 1 by omega]

/-- The reference's exponent of a number with biased exponent `N`. -/
theorem expR_normal (t : ℝ) (N : ℕ) (h1 : 1 ≤ N) (hl : (2 : ℝ) ^ ((N : ℤ) - 127) ≤ t) (hu : t < (2 : ℝ) ^ ((N : ℤ) - 126)) :
    expR t = ((((N : ℤ) - 126 : ℤ) : ℝ) : EReal) := by
  have ht : 0 < t := lt_of_lt_of_le (by positivity) hl
  have h2 : 0 < Real.log 2 := Real.log_pos (by norm_num)
  have hn : ¬ ((t : EReal) < Ideal.ofBits FTy.f32 0x00800000#32) := by
    rw [least_normal, EReal.coe_lt_coe_iff, not_lt]
    exact (zpow_le_zpow_right₀ (by norm_num) (by omega)).trans hl
  have hlog : Ideal.log (t : EReal) = ((Real.log t : ℝ) : EReal) := by
    show (if t ≤ 0 then (⊥ : EReal) else (Real.log t : EReal)) = _
    rw [if_neg (not_le.mpr ht)]
  have hdiv : Ideal.div ((Real.log t : ℝ) : EReal) ((Real.log 2 : ℝ) : EReal) = ((Real.log t / Real.log 2 : ℝ) : EReal) := by
    unfold Ideal.div
    rw [if_neg (by rw [EReal.coe_eq_zero]; exact h2.ne'), ← EReal.coe_inv, ← EReal.coe_mul, div_eq_mul_inv]
  have hfl : ⌊Real.log t / Real.log 2⌋ = (N : ℤ) - 127 := by
    rw [Int.floor_eq_iff]
    constructor
    · rw [le_div_iff₀ h2, ← Real.log_zpow]
      exact Real.log_le_log (by positivity) hl
    · have e : (((N : ℤ) - 127 : ℤ) : ℝ) + 1 = (((N : ℤ) - 126 : ℤ) : ℝ) := by push_cast; ring
      rw [e, div_lt_iff₀ h2, ← Real.log_zpow]
      exact Real.log_lt_log ht hu
  unfold expR
  rw [if_neg hn, hlog, hdiv]
  show (((⌊Real.log t / Real.log 2⌋ : ℤ) : ℝ) : EReal) + ((1 : ℝ) : EReal) = _
  rw [hfl, ← EReal.coe_add]
  refine congrArg (fun x : ℝ => (x : EReal)) ?_
  push_cast
  ring

/-- Two to an integer power, as the reference raises it. -/
theorem exp2_int (n : ℤ) : Ideal.exp2 (((n : ℤ) : ℝ) : EReal) = (((2 : ℝ) ^ n : ℝ) : EReal) :=
  congrArg (fun x : ℝ => (x : EReal)) (Real.rpow_intCast 2 n)

/-- The kernel's scale and inverse scale are the reference's, below two to the 126. -/
theorem scale_inv_eq (t : ℝ) (hu : t < (2 : ℝ) ^ (126 : ℤ)) :
    scaleK t = Ideal.exp2 (expR t) ∧ invK t = Ideal.exp2 (0 - expR t) := by
  by_cases hl : t < (2 : ℝ) ^ (-126 : ℤ)
  · have he : expR t = (((0 : ℤ) : ℝ) : EReal) := by
      unfold expR
      rw [least_normal, if_pos (EReal.coe_lt_coe_iff.mpr hl), Int.cast_zero, EReal.coe_zero]
    have hz : (0 : EReal) - (((0 : ℤ) : ℝ) : EReal) = (((0 : ℤ) : ℝ) : EReal) := by rw [Int.cast_zero, EReal.coe_zero, sub_zero]
    have h127 := pw_normal 127 (by omega) (by omega)
    unfold scaleK invK expK
    rw [he, hz, exp2_int, cnt_small t hl]
    exact ⟨h127.trans (by norm_num), h127.trans (by norm_num)⟩
  · obtain ⟨N, h1, h2, hN, hN'⟩ := exists_exponent t (not_lt.mp hl) hu
    have hw := scale_word ⟨N, by omega⟩ h1
    have he := expR_normal t N h1 hN hN'
    have hz : (0 : EReal) - ((((N : ℤ) - 126 : ℤ) : ℝ) : EReal) = (((126 - (N : ℤ) : ℤ) : ℝ) : EReal) := by
      rw [zero_sub, ← EReal.coe_neg]
      refine congrArg (fun x : ℝ => (x : EReal)) ?_
      push_cast
      ring
    unfold scaleK invK expK
    rw [he, hz, exp2_int, exp2_int, cnt_normal t N h1 (by omega) hN hN', hw.1, hw.2]
    refine ⟨(pw_normal (N + 1) (by omega) (by omega)).trans ?_, (pw_normal (253 - N) (by omega) (by omega)).trans ?_⟩
    · rw [show (((N + 1 : ℕ) : ℤ) - 127) = (N : ℤ) - 126 by omega]
    · rw [show (((253 - N : ℕ) : ℤ) - 127) = 126 - (N : ℤ) by omega]

end Cert.Quant
end
-- ==== Proof.Bound.lean ====
/- The scaled row maximum is the same number on both sides, and is below two to the 126 when the gain is finite. -/
module

public import proofs.«01_k».proof.Proof.Quant

@[expose] public section

set_option maxRecDepth 16384

noncomputable section

namespace Cert.Bound
open Idealize.ShloMosaic
open Cert.KernelIdeal.Vals (eabs rsR mxR tR codeK scaleK invK)
open Cert.ReferenceIdeal.Vals (expR tB codeB)

/-- The word of 12288. -/
theorem word_len : Ideal.ofBits FTy.f32 0x46400000#32 = ((12288 : ℝ) : EReal) := by
  simp [Ideal.ofBits, Ideal.ieee, -EReal.coe_mul]; norm_num
/-- The word of the epsilon. -/
theorem word_eps : Ideal.ofBits FTy.f32 0x358637BD#32 = ((8796093 / 2 ^ 43 : ℝ) : EReal) := by
  simp [Ideal.ofBits, Ideal.ieee, -EReal.coe_mul]; norm_num
/-- The word of the reciprocal of 448. -/
theorem word_c : Ideal.ofBits FTy.f32 0x3B124925#32 = ((9586981 / 2 ^ 32 : ℝ) : EReal) := by
  simp [Ideal.ofBits, Ideal.ieee, -EReal.coe_mul]; norm_num
/-- The word of the greatest finite number. -/
theorem word_max : Ideal.ofBits FTy.f32 0x7F7FFFFF#32 = (((2 ^ 24 - 1) * 2 ^ 104 : ℝ) : EReal) := by
  simp [Ideal.ofBits, Ideal.ieee, -EReal.coe_mul]; norm_num

/-- An extended real's square is not negative. -/
theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- The absolute value of a product with a nonnegative factor. -/
theorem eabs_mul (x ρ : EReal) (h : 0 ≤ ρ) : eabs (x * ρ) = eabs x * ρ := by
  unfold eabs
  rw [← EReal.neg_mul]
  rcases le_total x (-x) with hx | hx
  · rw [max_eq_right hx, max_eq_right (mul_le_mul_of_nonneg_right hx h)]
  · rw [max_eq_left hx, max_eq_left (mul_le_mul_of_nonneg_right hx h)]

/-- The absolute value of a real. -/
theorem eabs_coe (y : ℝ) : eabs (y : EReal) = ((|y| : ℝ) : EReal) := by
  unfold eabs
  rw [← EReal.coe_neg]
  exact (EReal.coe_strictMono.monotone.map_max (a := y) (b := -y)).symm

/-- A nonnegative factor comes out of a row's maximum. -/
theorem sup_mul (f : Fin 12288 → EReal) (ρ : EReal) (h : 0 ≤ ρ) :
    (Finset.univ.sup fun k => f k * ρ) = Finset.univ.sup f * ρ := by
  refine le_antisymm (Finset.sup_le fun k hk => mul_le_mul_of_nonneg_right (Finset.le_sup (f := f) hk) h) ?_
  obtain ⟨k, hk, e⟩ := Finset.exists_mem_eq_sup Finset.univ ⟨0, Finset.mem_univ _⟩ f
  rw [e]
  exact Finset.le_sup (f := fun k => f k * ρ) hk

/-- A row's largest absolute value is that of one of its columns. -/
theorem mxR_attained (R g : Fin 12288 → EReal) : ∃ k, mxR R g = eabs (R k * g k) := by
  obtain ⟨k, _, e⟩ := Finset.exists_mem_eq_sup Finset.univ ⟨0, Finset.mem_univ _⟩ fun k => eabs (R k * g k)
  exact ⟨k, e⟩

/-- Both sides' scaled row maxima agree where the reciprocal root mean square is not negative. -/
theorem tB_eq (R g : Fin 12288 → EReal) (h : 0 ≤ rsR R) : tB R g = tR R g := by
  unfold tB tR mxR
  rw [← sup_mul _ _ h]
  refine congrArg (fun z : EReal => z * Ideal.ofBits FTy.f32 0x3B124925#32) (Finset.sup_congr rfl fun k _ => ?_)
  rw [← eabs_mul _ _ h, mul_right_comm]

/-- A sum of squares is infinite, or it is real and so is every term. -/
theorem sum_cases (R : Fin 12288 → EReal) : (∑ k, R k * R k) = ⊤ ∨ ∃ r : Fin 12288 → ℝ, ∀ k, R k = (r k : EReal) := by
  by_cases h : ∀ k, ∃ y : ℝ, R k = (y : EReal)
  · exact .inr ⟨fun k => (h k).choose, fun k => (h k).choose_spec⟩
  · left
    obtain ⟨k, hk⟩ := not_forall.mp h
    have hs : R k * R k = ⊤ := by
      induction hx : R k with
      | bot => exact EReal.bot_mul_bot
      | top => exact EReal.top_mul_top
      | coe r => exact absurd ⟨r, hx⟩ hk
    refine top_le_iff.mp (hs ▸ ?_)
    exact Finset.single_le_sum (f := fun k => R k * R k) (fun k _ => sq_nonneg' (R k)) (Finset.mem_univ k)

/-- With an infinite residual in the row the reciprocal root mean square is zero. -/
theorem rsR_top (R : Fin 12288 → EReal) (h : (∑ k, R k * R k) = ⊤) : rsR R = 0 := by
  unfold rsR
  rw [h, word_len, word_eps]
  have : Ideal.div ⊤ ((12288 : ℝ) : EReal) = ⊤ := by
    unfold Ideal.div
    rw [if_neg (by rw [EReal.coe_eq_zero]; norm_num), ← EReal.coe_inv, EReal.top_mul_coe_of_pos (by norm_num)]
  rw [this, EReal.top_add_coe]
  rfl

/-- A row of reals: the mean square plus epsilon. -/
def meanSq (r : Fin 12288 → ℝ) : ℝ := (∑ k, r k * r k) / 12288 + 8796093 / 2 ^ 43

/-- It is positive. -/
theorem meanSq_pos (r : Fin 12288 → ℝ) : 0 < meanSq r := by
  have : 0 ≤ ∑ k, r k * r k := Finset.sum_nonneg fun k _ => mul_self_nonneg (r k)
  unfold meanSq
  positivity

/-- A sum of reals as a sum of extended reals. -/
theorem coe_sum (f : Fin 12288 → ℝ) : ((∑ k, f k : ℝ) : EReal) = ∑ k, (f k : EReal) :=
  map_sum (⟨⟨fun x : ℝ => (x : EReal), EReal.coe_zero⟩, EReal.coe_add⟩ : ℝ →+ EReal) f Finset.univ

/-- The reciprocal root mean square of a row of reals. -/
theorem rsR_coe (R : Fin 12288 → EReal) (r : Fin 12288 → ℝ) (h : ∀ k, R k = (r k : EReal)) :
    rsR R = (((Real.sqrt (meanSq r))⁻¹ : ℝ) : EReal) := by
  unfold rsR
  have hs : (∑ k, R k * R k) = ((∑ k, r k * r k : ℝ) : EReal) := by
    rw [coe_sum]
    exact Finset.sum_congr rfl fun k _ => by rw [h k, EReal.coe_mul]
  have hd : Ideal.div ((∑ k, r k * r k : ℝ) : EReal) ((12288 : ℝ) : EReal) = (((∑ k, r k * r k) / 12288 : ℝ) : EReal) := by
    unfold Ideal.div
    rw [if_neg (by rw [EReal.coe_eq_zero]; norm_num), ← EReal.coe_inv, ← EReal.coe_mul, div_eq_mul_inv]
  rw [hs, word_len, word_eps, hd, ← EReal.coe_add]
  show (if meanSq r < 0 then (⊥ : EReal) else if meanSq r = 0 then ⊤ else (((Real.sqrt (meanSq r))⁻¹ : ℝ) : EReal)) = _
  rw [if_neg (meanSq_pos r).le.not_gt, if_neg (meanSq_pos r).ne']

/-- A value times the reciprocal root mean square of its row is at most 111. -/
theorem normed_le (r : Fin 12288 → ℝ) (k : Fin 12288) : |r k| * (Real.sqrt (meanSq r))⁻¹ ≤ 111 := by
  have hp := meanSq_pos r
  rw [← div_eq_mul_inv, div_le_iff₀ (Real.sqrt_pos.mpr hp)]
  refine abs_le_of_sq_le_sq ?_ (by positivity)
  rw [mul_pow, Real.sq_sqrt hp.le]
  have h1 : r k * r k ≤ ∑ k, r k * r k := Finset.single_le_sum (f := fun k => r k * r k) (fun k _ => mul_self_nonneg (r k)) (Finset.mem_univ k)
  unfold meanSq
  nlinarith [mul_self_nonneg (r k)]

/-- Under a finite gain the scaled row maximum is a real below two to the 126, and both sides' agree. -/
theorem t_real (R g : Fin 12288 → EReal) (hg : ∀ k, ∃ y : ℝ, g k = (y : EReal) ∧ |y| ≤ (2 ^ 24 - 1) * 2 ^ 104) :
    ∃ t : ℝ, t < (2 : ℝ) ^ (126 : ℤ) ∧ tR R g = (t : EReal) ∧ tB R g = (t : EReal) := by
  rcases sum_cases R with hs | ⟨r, hr⟩
  · have h0 := rsR_top R hs
    have ht : tR R g = ((0 : ℝ) : EReal) := by
      unfold tR
      rw [h0, mul_zero, zero_mul, EReal.coe_zero]
    exact ⟨0, by positivity, ht, (tB_eq R g h0.ge).trans ht⟩
  · have hrs := rsR_coe R r hr
    have hpos : 0 ≤ (Real.sqrt (meanSq r))⁻¹ := by positivity
    obtain ⟨k, hk⟩ := mxR_attained R g
    obtain ⟨y, hy, hy'⟩ := hg k
    have ht : tR R g = ((|r k * y| * (Real.sqrt (meanSq r))⁻¹ * (9586981 / 2 ^ 32) : ℝ) : EReal) := by
      unfold tR
      rw [hk, hr k, hy, hrs, word_c, ← EReal.coe_mul, eabs_coe, ← EReal.coe_mul, ← EReal.coe_mul]
    refine ⟨_, ?_, ht, (tB_eq R g (hrs ▸ EReal.coe_nonneg.mpr hpos)).trans ht⟩
    have hn := normed_le r k
    rw [abs_mul, mul_right_comm |r k|]
    have h1 : |r k| * (Real.sqrt (meanSq r))⁻¹ * |y| ≤ 111 * ((2 ^ 24 - 1) * 2 ^ 104) := mul_le_mul hn hy' (abs_nonneg y) (by norm_num)
    refine (mul_le_mul_of_nonneg_right h1 (by norm_num)).trans_lt ?_
    norm_num

/-- The scales agree. -/
theorem scale_eq (R g : Fin 12288 → EReal) (hg : ∀ k, ∃ y : ℝ, g k = (y : EReal) ∧ |y| ≤ (2 ^ 24 - 1) * 2 ^ 104) :
    scaleK (tR R g) = Ideal.exp2 (expR (tB R g)) := by
  obtain ⟨t, ht, h1, h2⟩ := t_real R g hg
  rw [h1, h2]
  exact (Cert.Quant.scale_inv_eq t ht).1

/-- The codes agree. -/
theorem code_eq (R g : Fin 12288 → EReal) (hg : ∀ k, ∃ y : ℝ, g k = (y : EReal) ∧ |y| ≤ (2 ^ 24 - 1) * 2 ^ 104) (k : Fin 12288) :
    codeK R g k = codeB R g k := by
  obtain ⟨t, ht, h1, h2⟩ := t_real R g hg
  unfold codeK codeB
  rw [h1, h2, (Cert.Quant.scale_inv_eq t ht).2, ← mul_assoc, mul_right_comm]

end Cert.Bound
end
-- ==== Proof.PreGain.lean ====
/- The precondition read at a column: the gain is a real no greater in absolute value than the greatest finite number. -/
module

public import proofs.«01_k».proof.Proof.Bound
public import proofs.«01_k».proof.Defs
public import proofs.«01_k».proof.Proof.Gen.Pre_finite_gain

@[expose] public section

set_option maxRecDepth 16384

noncomputable section

namespace Cert.PreGain
open Cert.Pre_finite_gain Cert.Pre_finite_gain.Facts
open Idealize.ShloMosaic

/-- A conjunction of words that is one has every word one. -/
theorem fold_andi {ι : Type} [DecidableEq ι] (f : ι → BitVec 1) (b : BitVec 1) (s : Finset ι) (h : Finset.fold IntOp.andi b f s = 1#1) :
    ∀ x ∈ s, f x = 1#1 := by
  induction s using Finset.induction_on with
  | empty => intro x hx; exact absurd hx (Finset.notMem_empty x)
  | insert a s ha ih =>
    rw [Finset.fold_insert ha] at h
    have h2 : ∀ p q : BitVec 1, IntOp.andi p q = 1#1 → p = 1#1 ∧ q = 1#1 := by decide
    obtain ⟨h1, h3⟩ := h2 _ _ h
    intro x hx
    rcases Finset.mem_insert.mp hx with rfl | hx
    · exact h1
    · exact ih h3 x hx

/-- The whole reduction being one, every element of it is. -/
theorem all_one [Cert.Pre_finite_gain.Facts] (v : IVec S12288 1) (j : S_.Idx)
    (h : Host.reduce IntOp.andi v (constantI S_ 1 1#1) reducesTo_S12288_S_d0 h_S_ j = 1#1) (k : Fin 12288) : v (ix1 k) = 1#1 := by
  rw [Host.reduce_eq_fold] at h
  refine fold_andi _ _ _ h (ix1 k) ?_
  exact Finset.mem_filter.mpr ⟨Finset.mem_univ _, funext fun a => a.elim0⟩

/-- One element of the test. -/
theorem test_apply [Cert.Pre_finite_gain.Facts] (x : FVec Ideal S12288 .f32) (k : Fin 12288) :
    cmpf (F := Ideal) .ole (Host.absf x) (broadcastInDim S12288 ![] bcast_S_S12288 (constant (F := Ideal) S_ .f32 0x7F7FFFFF#32)) (ix1 k)
      = BitVec.ofBool (decide (max (x (ix1 k)) (-(x (ix1 k))) ≤ Ideal.ofBits FTy.f32 0x7F7FFFFF#32)) := by
  pointwise
  rfl

/-- An extended real within finite bounds is a real within them. -/
theorem real_of_le (x : EReal) (M : ℝ) (h : max x (-x) ≤ (M : EReal)) : ∃ y : ℝ, x = (y : EReal) ∧ |y| ≤ M := by
  obtain ⟨h1, h2⟩ := max_le_iff.mp h
  induction x with
  | bot => exact absurd (h2.trans_lt (EReal.coe_lt_top M)) (by rw [EReal.neg_bot]; exact lt_irrefl _)
  | top => exact absurd (h1.trans_lt (EReal.coe_lt_top M)) (lt_irrefl _)
  | coe r =>
    rw [← EReal.coe_neg] at h2
    exact ⟨r, rfl, abs_le'.mpr ⟨EReal.coe_le_coe_iff.mp h1, EReal.coe_le_coe_iff.mp h2⟩⟩

/-- The word of one says its comparison holds. -/
theorem of_ofBool {p : Prop} [Decidable p] (h : BitVec.ofBool (decide p) = 1#1) : p := by
  by_contra hp
  rw [decide_eq_false hp] at h
  exact absurd h (by decide)

/-- The predicate as a term of vector operations. -/
theorem fn_eq [Cert.Pre_finite_gain.Facts] (a0 : FVec Ideal S4x2x128x12288 .fp8e4m3) (a1 : FVec Ideal S4x2x128 .f32) (a2 : FVec Ideal S12288 .f32)
    (a3 : FVec Ideal S2x128x12288 .bf16) (a4 : FVec Ideal S12288 .f32) :
    fn (F := Ideal) a0 a1 a2 a3 a4 = Host.reduce IntOp.andi (cmpf (F := Ideal) .ole (Host.absf a4) (broadcastInDim S12288 ![] bcast_S_S12288 (constant (F := Ideal) S_ .f32 0x7F7FFFFF#32)))
      (constantI S_ 1 1#1) reducesTo_S12288_S_d0 h_S_ := by
  rw [fn]

/-- Under the precondition every gain is a real no greater in absolute value than the greatest finite number. -/
theorem gain_real [Cert.Pre_finite_gain.Facts] (m : (ℓ : Loc Cert.KernelIdeal.nD Cert.KernelIdeal.τ Cert.KernelIdeal.sig) → Buf (Elt Ideal) ℓ)
    (h : Cert.Pre_KernelIdeal_finite_gain m) (c : Dev Cert.KernelIdeal.nD) (k : Fin 12288) :
    ∃ y : ℝ, Cert.KernelIdeal.Vals.gm m c k = (y : EReal) ∧ |y| ≤ (2 ^ 24 - 1) * 2 ^ 104 := by
  have hj := congrFun ((fn_eq _ _ _ _ _).symm.trans (h c)) (fun a => a.elim0)
  have hk := of_ofBool ((test_apply _ k).symm.trans (all_one _ _ hj k))
  rw [Cert.Bound.word_max] at hk
  exact real_of_le _ _ hk

end Cert.PreGain
end
-- ==== Proof.Assemble.lean ====
/- The value claim: both programs end with the same three arrays. -/
module

public import proofs.«01_k».proof.Proof.PreGain
public import proofs.«01_k».proof.Proof.Gen.KernelIdeal
public import proofs.«01_k».proof.Proof.Gen.ReferenceIdeal

@[expose] public section

set_option maxRecDepth 16384

noncomputable section

namespace Cert.Assemble
open Idealize.ShloMosaic Idealize.SL.Sem
open Cert.KernelIdeal.Vals (G5 G6 G7 gm Rm bOf sOf svA)
open Cert.ReferenceIdeal.Vals (H5 H6 H7 gr Rr)

/-- The kernel ends with its arguments unchanged and its counters at zero. -/
theorem frame (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) ∧ r.2.sem = fun _ => 0) :=
  (θ_run Cert.KernelIdeal.defs _ _).mono (fun r h => ⟨fun c => (h.1 c).2.2.2, h.2⟩) (Cert.KernelIdeal.Vals.run m ρ)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same five arguments. -/
def Agree : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

/-- Then they hold the same residual rows. -/
theorem row_eq (h : Agree m m') (c : Dev Cert.KernelIdeal.nD) (b : Fin 2) (s : Fin 128) : Rr m' c b s = Rm m c b s := by
  funext k
  unfold Rr Rm
  rw [(h c).1, (h c).2.1, (h c).2.2.1, (h c).2.2.2.1]

/-- And the same gain. -/
theorem gain_eq (h : Agree m m') (c : Dev Cert.KernelIdeal.nD) : gr m' c = gm m c := by
  funext k
  unfold gr gm
  rw [(h c).2.2.2.2]

/-- The residual arrays agree. -/
theorem arr5_eq (h : Agree m m') (c : Dev Cert.KernelIdeal.nD) : H5 m' c = G5 m c :=
  funext fun i => congrFun (row_eq m m' h c (bOf (i 0)) (sOf (i 0))) (i 1)

/-- The code arrays agree. -/
theorem arr6_eq [Cert.Pre_finite_gain.Facts] (hp : Cert.Pre_KernelIdeal_finite_gain m) (h : Agree m m') (c : Dev Cert.KernelIdeal.nD) : H6 m' c = G6 m c := by
  funext i
  unfold H6 G6
  rw [row_eq m m' h c, gain_eq m m' h c]
  exact (Cert.Bound.code_eq _ _ (Cert.PreGain.gain_real m hp c) _).symm

/-- The arrays of scales agree. -/
theorem arr7_eq [Cert.Pre_finite_gain.Facts] (hp : Cert.Pre_KernelIdeal_finite_gain m) (h : Agree m m') (c : Dev Cert.KernelIdeal.nD) : H7 m' c = G7 m c := by
  funext i
  refine (congrArg₂ (fun R g => Ideal.exp2 (Cert.ReferenceIdeal.Vals.expR (Cert.ReferenceIdeal.Vals.tB R g))) (row_eq m m' h c (i 0) (i 1)) (gain_eq m m' h c)).trans ?_
  exact (Cert.Bound.scale_eq _ _ (Cert.PreGain.gain_real m hp c)).symm

/-- The kernel's results are the reference's where the gain is finite. -/
theorem algebraic [Cert.Pre_finite_gain.Facts] :
    Cert.algebraic_KernelIdeal_ReferenceIdeal_pre_finite_gain (hKernelIdeal := Cert.KernelIdeal.Gen.facts) (hReferenceIdeal := Cert.ReferenceIdeal.Gen.facts) := by
  intro m ρ m' ρ' hp hagree
  refine ⟨G5 m, G6 m, G7 m, (θ_run Cert.KernelIdeal.defs _ _).mono (fun r h => h.1) (Cert.KernelIdeal.Vals.run m ρ), ?_⟩
  refine (θ_run Cert.ReferenceIdeal.defs _ _).mono (fun r h c => ?_) (Cert.ReferenceIdeal.Vals.run m' ρ')
  exact ⟨(h c).1.trans (arr5_eq m m' hagree c), (h c).2.1.trans (arr6_eq m m' hp hagree c), (h c).2.2.1.trans (arr7_eq m m' hp hagree c), (h c).2.2.2⟩

end Cert.Assemble
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_finite_gain
public import proofs.«01_k».proof.Proof.KernelFrame
public import proofs.«01_k».proof.Proof.Assemble
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Reference.Gen.facts, Cert.Pre_finite_gain.Gen.facts,
  fun m ρ _ => Cert.Kernel.Unread.frame m ρ, fun m ρ _ => Cert.Assemble.frame m ρ, fun m ρ _ => Cert.Assemble.frame m ρ,
  fun m ρ _ => Cert.ReferenceIdeal.Gen.frame m ρ, fun m ρ _ => Cert.ReferenceIdeal.Gen.frame m ρ, fun m ρ _ => Cert.Reference.Gen.frame m ρ, trivial,
  IdealRules.named_const.statement Cert.ReferenceIdeal.κ "ln2" .f32 0x3F317218#32 ((Real.log 2 : ℝ) : EReal) rfl,
  Cert.Assemble.algebraic⟩

end Cert.Proof

end
